-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3)
      ∧ r.2.mem ((c.tc : Thread Cert.Outp.nD Cert.Outp.τ).loc Cert.Outp.main_arg4) = m ((c.tc : Thread Cert.Outp.nD Cert.Outp.τ).loc Cert.Outp.main_arg4)
      ∧ r.2.mem ((c.tc : Thread Cert.Outp.nD Cert.Outp.τ).loc Cert.Outp.main_arg5) = m ((c.tc : Thread Cert.Outp.nD Cert.Outp.τ).loc Cert.Outp.main_arg5)
      ∧ r.2.mem ((c.tc : Thread Cert.Outp.nD Cert.Outp.τ).loc Cert.Outp.main_arg6) = m ((c.tc : Thread Cert.Outp.nD Cert.Outp.τ).loc Cert.Outp.main_arg6)
      ∧ r.2.mem ((c.tc : Thread Cert.Outp.nD Cert.Outp.τ).loc Cert.Outp.main_arg7) = m ((c.tc : Thread Cert.Outp.nD Cert.Outp.τ).loc Cert.Outp.main_arg7)
      ∧ r.2.mem ((c.tc : Thread Cert.Outp.nD Cert.Outp.τ).loc Cert.Outp.main_arg8) = m ((c.tc : Thread Cert.Outp.nD Cert.Outp.τ).loc Cert.Outp.main_arg8)
      ∧ r.2.mem ((c.tc : Thread Cert.Outp.nD Cert.Outp.τ).loc Cert.Outp.main_arg9) = m ((c.tc : Thread Cert.Outp.nD Cert.Outp.τ).loc Cert.Outp.main_arg9))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
      ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
      ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5)
      ∧ r.2.mem ((c.tc : Thread Cert.OutpIdeal.nD Cert.OutpIdeal.τ).loc Cert.OutpIdeal.main_arg6) = m ((c.tc : Thread Cert.OutpIdeal.nD Cert.OutpIdeal.τ).loc Cert.OutpIdeal.main_arg6)
      ∧ r.2.mem ((c.tc : Thread Cert.OutpIdeal.nD Cert.OutpIdeal.τ).loc Cert.OutpIdeal.main_arg7) = m ((c.tc : Thread Cert.OutpIdeal.nD Cert.OutpIdeal.τ).loc Cert.OutpIdeal.main_arg7)
      ∧ r.2.mem ((c.tc : Thread Cert.OutpIdeal.nD Cert.OutpIdeal.τ).loc Cert.OutpIdeal.main_arg8) = m ((c.tc : Thread Cert.OutpIdeal.nD Cert.OutpIdeal.τ).loc Cert.OutpIdeal.main_arg8)
      ∧ r.2.mem ((c.tc : Thread Cert.OutpIdeal.nD Cert.OutpIdeal.τ).loc Cert.OutpIdeal.main_arg9) = m ((c.tc : Thread Cert.OutpIdeal.nD Cert.OutpIdeal.τ).loc Cert.OutpIdeal.main_arg9))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m ((c.tc : Thread Cert.OutpRefIdeal.nD Cert.OutpRefIdeal.τ).loc Cert.OutpRefIdeal.main_arg3)
      ∧ r.2.mem ((c.tc : Thread Cert.OutpRefIdeal.nD Cert.OutpRefIdeal.τ).loc Cert.OutpRefIdeal.main_arg4) = m ((c.tc : Thread Cert.OutpRefIdeal.nD Cert.OutpRefIdeal.τ).loc Cert.OutpRefIdeal.main_arg4)
      ∧ r.2.mem ((c.tc : Thread Cert.OutpRefIdeal.nD Cert.OutpRefIdeal.τ).loc Cert.OutpRefIdeal.main_arg5) = m ((c.tc : Thread Cert.OutpRefIdeal.nD Cert.OutpRefIdeal.τ).loc Cert.OutpRefIdeal.main_arg5)
      ∧ r.2.mem ((c.tc : Thread Cert.OutpRefIdeal.nD Cert.OutpRefIdeal.τ).loc Cert.OutpRefIdeal.main_arg6) = m ((c.tc : Thread Cert.OutpRefIdeal.nD Cert.OutpRefIdeal.τ).loc Cert.OutpRefIdeal.main_arg6)
      ∧ r.2.mem ((c.tc : Thread Cert.OutpRefIdeal.nD Cert.OutpRefIdeal.τ).loc Cert.OutpRefIdeal.main_arg7) = m ((c.tc : Thread Cert.OutpRefIdeal.nD Cert.OutpRefIdeal.τ).loc Cert.OutpRefIdeal.main_arg7)
      ∧ r.2.mem ((c.tc : Thread Cert.OutpRefIdeal.nD Cert.OutpRefIdeal.τ).loc Cert.OutpRefIdeal.main_arg8) = m ((c.tc : Thread Cert.OutpRefIdeal.nD Cert.OutpRefIdeal.τ).loc Cert.OutpRefIdeal.main_arg8)
      ∧ r.2.mem ((c.tc : Thread Cert.OutpRefIdeal.nD Cert.OutpRefIdeal.τ).loc Cert.OutpRefIdeal.main_arg9) = m ((c.tc : Thread Cert.OutpRefIdeal.nD Cert.OutpRefIdeal.τ).loc Cert.OutpRefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)) →
    ∃ (v0 : (c : Dev Cert.RetIdeal.nD) → Buf (Elt Ideal) ((c.tc : Thread Cert.RetIdeal.nD Cert.RetIdeal.τ).loc Cert.RetIdeal.main_v73_0)) (v1 : (c : Dev Cert.RetIdeal.nD) → Buf (Elt Ideal) ((c.tc : Thread Cert.RetIdeal.nD Cert.RetIdeal.τ).loc Cert.RetIdeal.main_v73_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v73_0) = v0 c
          ∧ r.2.mem ((c.tc : Thread Cert.RetIdeal.nD Cert.RetIdeal.τ).loc Cert.RetIdeal.main_v73_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v122) = v0 c
          ∧ r.2.mem ((c.tc : Thread Cert.RetRefIdeal.nD Cert.RetRefIdeal.τ).loc Cert.RetRefIdeal.main_v97_5) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)) →
    ∃ (v0 : (c : Dev Cert.InpIdeal.nD) → Buf (Elt Ideal) ((c.tc : Thread Cert.InpIdeal.nD Cert.InpIdeal.τ).loc Cert.InpIdeal.main_v4)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v4) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v10) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)
      ∧ m' ((c.tc : Thread Cert.OutpRefIdeal.nD Cert.OutpRefIdeal.τ).loc Cert.OutpRefIdeal.main_arg3) = m ((c.tc : Thread Cert.OutpIdeal.nD Cert.OutpIdeal.τ).loc Cert.OutpIdeal.main_arg3)
      ∧ m' ((c.tc : Thread Cert.OutpRefIdeal.nD Cert.OutpRefIdeal.τ).loc Cert.OutpRefIdeal.main_arg4) = m ((c.tc : Thread Cert.OutpIdeal.nD Cert.OutpIdeal.τ).loc Cert.OutpIdeal.main_arg4)
      ∧ m' ((c.tc : Thread Cert.OutpRefIdeal.nD Cert.OutpRefIdeal.τ).loc Cert.OutpRefIdeal.main_arg5) = m ((c.tc : Thread Cert.OutpIdeal.nD Cert.OutpIdeal.τ).loc Cert.OutpIdeal.main_arg5)
      ∧ m' ((c.tc : Thread Cert.OutpRefIdeal.nD Cert.OutpRefIdeal.τ).loc Cert.OutpRefIdeal.main_arg6) = m ((c.tc : Thread Cert.OutpIdeal.nD Cert.OutpIdeal.τ).loc Cert.OutpIdeal.main_arg6)
      ∧ m' ((c.tc : Thread Cert.OutpRefIdeal.nD Cert.OutpRefIdeal.τ).loc Cert.OutpRefIdeal.main_arg7) = m ((c.tc : Thread Cert.OutpIdeal.nD Cert.OutpIdeal.τ).loc Cert.OutpIdeal.main_arg7)
      ∧ m' ((c.tc : Thread Cert.OutpRefIdeal.nD Cert.OutpRefIdeal.τ).loc Cert.OutpRefIdeal.main_arg8) = m ((c.tc : Thread Cert.OutpIdeal.nD Cert.OutpIdeal.τ).loc Cert.OutpIdeal.main_arg8)
      ∧ m' ((c.tc : Thread Cert.OutpRefIdeal.nD Cert.OutpRefIdeal.τ).loc Cert.OutpRefIdeal.main_arg9) = m ((c.tc : Thread Cert.OutpIdeal.nD Cert.OutpIdeal.τ).loc Cert.OutpIdeal.main_arg9)) →
    ∃ (v0 : (c : Dev Cert.OutpIdeal.nD) → Buf (Elt Ideal) ((c.tc : Thread Cert.OutpIdeal.nD Cert.OutpIdeal.τ).loc Cert.OutpIdeal.main_v7_0)) (v1 : (c : Dev Cert.OutpIdeal.nD) → Buf (Elt Ideal) ((c.tc : Thread Cert.OutpIdeal.nD Cert.OutpIdeal.τ).loc Cert.OutpIdeal.main_v7_1)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v7_0) = v0 c
          ∧ r.2.mem ((c.tc : Thread Cert.OutpIdeal.nD Cert.OutpIdeal.τ).loc Cert.OutpIdeal.main_v7_1) = v1 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
          ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
          ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5)
          ∧ r.2.mem ((c.tc : Thread Cert.OutpIdeal.nD Cert.OutpIdeal.τ).loc Cert.OutpIdeal.main_arg6) = m ((c.tc : Thread Cert.OutpIdeal.nD Cert.OutpIdeal.τ).loc Cert.OutpIdeal.main_arg6)
          ∧ r.2.mem ((c.tc : Thread Cert.OutpIdeal.nD Cert.OutpIdeal.τ).loc Cert.OutpIdeal.main_arg7) = m ((c.tc : Thread Cert.OutpIdeal.nD Cert.OutpIdeal.τ).loc Cert.OutpIdeal.main_arg7)
          ∧ r.2.mem ((c.tc : Thread Cert.OutpIdeal.nD Cert.OutpIdeal.τ).loc Cert.OutpIdeal.main_arg8) = m ((c.tc : Thread Cert.OutpIdeal.nD Cert.OutpIdeal.τ).loc Cert.OutpIdeal.main_arg8)
          ∧ r.2.mem ((c.tc : Thread Cert.OutpIdeal.nD Cert.OutpIdeal.τ).loc Cert.OutpIdeal.main_arg9) = m ((c.tc : Thread Cert.OutpIdeal.nD Cert.OutpIdeal.τ).loc Cert.OutpIdeal.main_arg9))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v38) = v0 c
          ∧ r.2.mem ((c.tc : Thread Cert.OutpRefIdeal.nD Cert.OutpRefIdeal.τ).loc Cert.OutpRefIdeal.main_v47) = v1 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
          ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3)
          ∧ r.2.mem ((c.tc : Thread Cert.OutpRefIdeal.nD Cert.OutpRefIdeal.τ).loc Cert.OutpRefIdeal.main_arg4) = m' ((c.tc : Thread Cert.OutpRefIdeal.nD Cert.OutpRefIdeal.τ).loc Cert.OutpRefIdeal.main_arg4)
          ∧ r.2.mem ((c.tc : Thread Cert.OutpRefIdeal.nD Cert.OutpRefIdeal.τ).loc Cert.OutpRefIdeal.main_arg5) = m' ((c.tc : Thread Cert.OutpRefIdeal.nD Cert.OutpRefIdeal.τ).loc Cert.OutpRefIdeal.main_arg5)
          ∧ r.2.mem ((c.tc : Thread Cert.OutpRefIdeal.nD Cert.OutpRefIdeal.τ).loc Cert.OutpRefIdeal.main_arg6) = m' ((c.tc : Thread Cert.OutpRefIdeal.nD Cert.OutpRefIdeal.τ).loc Cert.OutpRefIdeal.main_arg6)
          ∧ r.2.mem ((c.tc : Thread Cert.OutpRefIdeal.nD Cert.OutpRefIdeal.τ).loc Cert.OutpRefIdeal.main_arg7) = m' ((c.tc : Thread Cert.OutpRefIdeal.nD Cert.OutpRefIdeal.τ).loc Cert.OutpRefIdeal.main_arg7)
          ∧ r.2.mem ((c.tc : Thread Cert.OutpRefIdeal.nD Cert.OutpRefIdeal.τ).loc Cert.OutpRefIdeal.main_arg8) = m' ((c.tc : Thread Cert.OutpRefIdeal.nD Cert.OutpRefIdeal.τ).loc Cert.OutpRefIdeal.main_arg8)
          ∧ r.2.mem ((c.tc : Thread Cert.OutpRefIdeal.nD Cert.OutpRefIdeal.τ).loc Cert.OutpRefIdeal.main_arg9) = m' ((c.tc : Thread Cert.OutpRefIdeal.nD Cert.OutpRefIdeal.τ).loc Cert.OutpRefIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v42) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v7) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v4_0)) (v1 : (c : Dev Cert.ConvIdeal.nD) → Buf (Elt Ideal) ((c.tc : Thread Cert.ConvIdeal.nD Cert.ConvIdeal.τ).loc Cert.ConvIdeal.main_v4_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4_0) = v0 c
          ∧ r.2.mem ((c.tc : Thread Cert.ConvIdeal.nD Cert.ConvIdeal.τ).loc Cert.ConvIdeal.main_v4_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v271) = v0 c
          ∧ r.2.mem ((c.tc : Thread Cert.ConvRefIdeal.nD Cert.ConvRefIdeal.τ).loc Cert.ConvRefIdeal.main_v272) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def Claim : Prop :=
  ∃ (hRet : Cert.Ret.Facts) (hRetIdeal : Cert.RetIdeal.Facts) (hRetRefIdeal : Cert.RetRefIdeal.Facts) (hInp : Cert.Inp.Facts) (hInpIdeal : Cert.InpIdeal.Facts) (hInpRefIdeal : Cert.InpRefIdeal.Facts) (hOutp : Cert.Outp.Facts) (hOutpIdeal : Cert.OutpIdeal.Facts) (hOutpRefIdeal : Cert.OutpRefIdeal.Facts) (hFfn : Cert.Ffn.Facts) (hFfnIdeal : Cert.FfnIdeal.Facts) (hFfnRefIdeal : Cert.FfnRefIdeal.Facts) (hAda : Cert.Ada.Facts) (hAdaIdeal : Cert.AdaIdeal.Facts) (hAdaRefIdeal : Cert.AdaRefIdeal.Facts) (hConv : Cert.Conv.Facts) (hConvIdeal : Cert.ConvIdeal.Facts) (hConvRefIdeal : Cert.ConvRefIdeal.Facts),
    quiescent_Ret (hRet := hRet)
    ∧ quiescent_RetIdeal (hRetIdeal := hRetIdeal)
    ∧ quiescent_RetRefIdeal (hRetRefIdeal := hRetRefIdeal)
    ∧ quiescent_Inp (hInp := hInp)
    ∧ quiescent_InpIdeal (hInpIdeal := hInpIdeal)
    ∧ quiescent_InpRefIdeal (hInpRefIdeal := hInpRefIdeal)
    ∧ quiescent_Outp (hOutp := hOutp)
    ∧ quiescent_OutpIdeal (hOutpIdeal := hOutpIdeal)
    ∧ quiescent_OutpRefIdeal (hOutpRefIdeal := hOutpRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Ada (hAda := hAda)
    ∧ quiescent_AdaIdeal (hAdaIdeal := hAdaIdeal)
    ∧ quiescent_AdaRefIdeal (hAdaRefIdeal := hAdaRefIdeal)
    ∧ quiescent_Conv (hConv := hConv)
    ∧ quiescent_ConvIdeal (hConvIdeal := hConvIdeal)
    ∧ quiescent_ConvRefIdeal (hConvRefIdeal := hConvRefIdeal)
    ∧ preserves_Ret_RetIdeal
    ∧ algebraic_RetIdeal_RetRefIdeal (hRetIdeal := hRetIdeal) (hRetRefIdeal := hRetRefIdeal)
    ∧ preserves_Inp_InpIdeal
    ∧ algebraic_InpIdeal_InpRefIdeal (hInpIdeal := hInpIdeal) (hInpRefIdeal := hInpRefIdeal)
    ∧ preserves_Outp_OutpIdeal
    ∧ algebraic_OutpIdeal_OutpRefIdeal (hOutpIdeal := hOutpIdeal) (hOutpRefIdeal := hOutpRefIdeal)
    ∧ preserves_Ffn_FfnIdeal
    ∧ algebraic_FfnIdeal_FfnRefIdeal (hFfnIdeal := hFfnIdeal) (hFfnRefIdeal := hFfnRefIdeal)
    ∧ preserves_Ada_AdaIdeal
    ∧ algebraic_AdaIdeal_AdaRefIdeal (hAdaIdeal := hAdaIdeal) (hAdaRefIdeal := hAdaRefIdeal)
    ∧ preserves_Conv_ConvIdeal
    ∧ algebraic_ConvIdeal_ConvRefIdeal (hConvIdeal := hConvIdeal) (hConvRefIdeal := hConvRefIdeal)
-- ==== Ret.lean ====
abbrev S4x2048x8704 : Shape := ⟨3, ![4, 2048, 8704]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x256 : Shape := ⟨3, ![4, 128, 256]⟩
abbrev S4x1x256 : Shape := ⟨3, ![4, 1, 256]⟩
abbrev S4x4x128x256 : Shape := ⟨4, ![4, 4, 128, 256]⟩
abbrev S4x2048x1024 : Shape := ⟨3, ![4, 2048, 1024]⟩
abbrev S1x2048x128 : Shape := ⟨3, ![1, 2048, 128]⟩
abbrev S1x2048x256 : Shape := ⟨3, ![1, 2048, 256]⟩
abbrev S1x128x256 : Shape := ⟨3, ![1, 128, 256]⟩
abbrev S1x1x256 : Shape := ⟨3, ![1, 1, 256]⟩
abbrev S1x1x128x256 : Shape := ⟨4, ![1, 1, 128, 256]⟩
abbrev S128x256 : Shape := ⟨2, ![128, 256]⟩
abbrev S1x256 : Shape := ⟨2, ![1, 256]⟩

abbrev nBuf : Space → Nat
  | .hbm => 95
  | .vmem => 25
  | .smem => 0
  | _ => 0

abbrev bufTy : (tb : Table) → Fin (tcTables nBuf tb) → BufTy
  | .hbm, ⟨0, _⟩ => ⟨S4x2048x8704, .f32⟩
  | .hbm, ⟨1, _⟩ => ⟨S2048, .i32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S2048, .f32⟩
  | .hbm, ⟨11, _⟩ => ⟨S2048x1, .f32⟩
  | .hbm, ⟨12, _⟩ => ⟨S1x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x128, .f32⟩
  | .hbm, ⟨19, _⟩ => ⟨S2048x64, .f32⟩
  | .hbm, ⟨20, _⟩ => ⟨S2048x128, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S128, .f32⟩
  | .hbm, ⟨32, _⟩ => ⟨S128x1, .f32⟩
  | .hbm, ⟨33, _⟩ => ⟨S1x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .i1⟩
  | .hbm, ⟨40, _⟩ => ⟨S4x1x1, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S1x128x128, .f32⟩
  | .hbm, ⟨45, _⟩ => ⟨S4x128x128, .f32⟩
  | .hbm, ⟨46, _⟩ => ⟨S4x128x128, .f32⟩
  | .hbm, ⟨47, _⟩ => ⟨S4x128x128, .f32⟩
  | .hbm, ⟨48, _⟩ => ⟨S4x128x128, .f32⟩
  | .hbm, ⟨49, _⟩ => ⟨S_, .f32⟩
  | .hbm, ⟨50, _⟩ => ⟨S_, .f32⟩
  | .hbm, ⟨51, _⟩ => ⟨S4x128x128, .i1⟩
  | .hbm, ⟨52, _⟩ => ⟨S4x128x128, .f32⟩
  | .hbm, ⟨53, _⟩ => ⟨S4x128x128, .f32⟩
  | .hbm, ⟨54, _⟩ => ⟨S4x1, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S4x128, .f32⟩
  | .hbm, ⟨60, _⟩ => ⟨S4x128, .f32⟩
  | .hbm, ⟨61, _⟩ => ⟨S4x128, .f32⟩
  | .hbm, ⟨62, _⟩ => ⟨S4x128, .f32⟩
  | .hbm, ⟨63, _⟩ => ⟨S1x128, .f32⟩
  | .hbm, ⟨64, _⟩ => ⟨S_, .f32⟩
  | .hbm, ⟨65, _⟩ => ⟨S1x128, .f32⟩
  | .hbm, ⟨66, _⟩ => ⟨S1x128, .i1⟩
  | .hbm, ⟨67, _⟩ => ⟨S4x1, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S4x128, .f32⟩
  | .hbm, ⟨73, _⟩ => ⟨S4x128, .f32⟩
  | .hbm, ⟨74, _⟩ => ⟨S4x128, .f32⟩
  | .hbm, ⟨75, _⟩ => ⟨S4x128, .f32⟩
  | .hbm, ⟨76, _⟩ => ⟨S_, .f32⟩
  | .hbm, ⟨77, _⟩ => ⟨S_, .f32⟩
  | .hbm, ⟨78, _⟩ => ⟨S4x128, .i1⟩
  | .hbm, ⟨79, _⟩ => ⟨S4x128, .f32⟩
  | .hbm, ⟨80, _⟩ => ⟨S4x128, .f32⟩
  | .hbm, ⟨81, _⟩ => ⟨S_, .f32⟩
  | .hbm, ⟨82, _⟩ => ⟨S4, .f32⟩
  | .hbm, ⟨83, _⟩ => ⟨S4, .f32⟩
  | .hbm, ⟨84, _⟩ => ⟨S4, .f32⟩
  | .hbm, ⟨85, _⟩ => ⟨S4x128x1, .f32⟩
  | .hbm, ⟨86, _⟩ => ⟨S4x128x256, .f32⟩
  | .hbm, ⟨87, _⟩ => ⟨S4x128x1, .f32⟩
  | .hbm, ⟨88, _⟩ => ⟨S4x128x128, .f32⟩
  | .hbm, ⟨89, _⟩ => ⟨S4x1x1, .f32⟩
  | .hbm, ⟨90, _⟩ => ⟨S4x1x256, .f32⟩
  | .hbm, ⟨91, _⟩ => ⟨S_, .f32⟩
  | .hbm, ⟨92, _⟩ => ⟨S4x4x128x256, .f32⟩
  | .hbm, ⟨93, _⟩ => ⟨S4x2048x1024, .bf16⟩
  | .hbm, ⟨94, _⟩ => ⟨S4x4x128x256, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S2048x128, .f32⟩
  | .local _ .vmem, ⟨9, _⟩ => ⟨S2048x128, .f32⟩
  | .local _ .vmem, ⟨10, _⟩ => ⟨S1x128x128, .f32⟩
  | .local _ .vmem, ⟨11, _⟩ => ⟨S1x128x128, .f32⟩
  | .local _ .vmem, ⟨12, _⟩ => ⟨S1x128x256, .f32⟩
  | .local _ .vmem, ⟨13, _⟩ => ⟨S1x128x256, .f32⟩
  | .local _ .vmem, ⟨14, _⟩ => ⟨S1x128x128, .f32⟩
  | .local _ .vmem, ⟨15, _⟩ => ⟨S1x128x128, .f32⟩
  | .local _ .vmem, ⟨16, _⟩ => ⟨S1x1x256, .f32⟩
  | .local _ .vmem, ⟨17, _⟩ => ⟨S1x1x256, .f32⟩
  | .local _ .vmem, ⟨18, _⟩ => ⟨S1x1x128x256, .f32⟩
  | .local _ .vmem, ⟨19, _⟩ => ⟨S1x1x128x256, .f32⟩
  | .local _ .vmem, ⟨20, _⟩ => ⟨S1x2048x256, .bf16⟩
  | .local _ .vmem, ⟨21, _⟩ => ⟨S1x2048x256, .bf16⟩
  | .local _ .vmem, ⟨22, _⟩ => ⟨S1x1x128x256, .f32⟩
  | .local _ .vmem, ⟨23, _⟩ => ⟨S1x1x128x256, .f32⟩
  | .local _ .vmem, ⟨24, _⟩ => ⟨S128x256, .f32⟩
  | _, _ => ⟨S4x2048x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_1 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_3 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_4 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_9 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73_0 : Ref sig .tc := ⟨.hbm, 93, rfl⟩
abbrev main_v73_1 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32 : BitVec 32 := 128#32
  let v10 : BitVec 32 := Scalar.muli arg16 c128_i32
  v10
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32 : BitVec 32 := 128#32
  let v10 : BitVec 32 := Scalar.muli arg16 c128_i32
  let v11 : BitVec 32 := v10
  let v12 : Index := Scalar.indexCast v11
  let c0_12 : Index := 0#32
  ![v12.toNat, 0]
def k0_off2 (k0_t1 : Fin k0_t1_loop.trips) : Fin 3 → Nat :=
  let c0_14 : Index := 0#32
  let c0_i32 : BitVec 32 := 0#32
  let c1_i32 : BitVec 32 := 1#32
  let arg16 : BitVec 32 := Scf.iv c0_i32 c1_i32 k0_t1
  let c128_i32 : BitVec 32 := 128#32
  let v10 : BitVec 32 := Scalar.muli arg16 c128_i32
  let v11 : BitVec 32 := v10
  let v18 : Index := Scalar.indexCast v11
  let c0_15 : Index := 0#32
  ![0, v18.toNat, 0]
def k0_off3 (k0_t1 : Fin k0_t1_loop.trips) : Fin 3 → Nat :=
  let c0_19 : Index := 0#32
  let c0_i32 : BitVec 32 := 0#32
  let c1_i32 : BitVec 32 := 1#32
  let arg16 : BitVec 32 := Scf.iv c0_i32 c1_i32 k0_t1
  let c128_i32 : BitVec 32 := 128#32
  let v10 : BitVec 32 := Scalar.muli arg16 c128_i32
  let v11 : BitVec 32 := v10
  let v34 : Index := Scalar.indexCast v11
  let c0_20 : Index := 0#32
  ![0, v34.toNat, 0]
def cc0_transform_0 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RetRefIdeal.lean ====
abbrev S4x2048x8704 : Shape := ⟨3, ![4, 2048, 8704]⟩
abbrev S4 : Shape := ⟨1, ![4]⟩
abbrev S_ : Shape := ⟨0, ![]⟩
abbrev S2048 : Shape := ⟨1, ![2048]⟩
abbrev S4x2048x512 : Shape := ⟨3, ![4, 2048, 512]⟩
abbrev S4x2048x1536 : Shape := ⟨3, ![4, 2048, 1536]⟩
abbrev S4x2048x1024 : Shape := ⟨3, ![4, 2048, 1024]⟩
abbrev S4x2048x4x128 : Shape := ⟨4, ![4, 2048, 4, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S4x2048x4x64 : Shape := ⟨4, ![4, 2048, 4, 64]⟩
abbrev S1x2048x1x64 : Shape := ⟨4, ![1, 2048, 1, 64]⟩
abbrev S4x2048x4x256 : Shape := ⟨4, ![4, 2048, 4, 256]⟩
abbrev S4x4x128x256 : Shape := ⟨4, ![4, 4, 128, 256]⟩
abbrev S4x16x128x4x128 : Shape := ⟨5, ![4, 16, 128, 4, 128]⟩
abbrev S16x4x128x4x128 : Shape := ⟨5, ![16, 4, 128, 4, 128]⟩
abbrev S4x16x128x4x256 : Shape := ⟨5, ![4, 16, 128, 4, 256]⟩
abbrev S16x4x128x4x256 : Shape := ⟨5, ![16, 4, 128, 4, 256]⟩
abbrev S1x4x128x4x128 : Shape := ⟨5, ![1, 4, 128, 4, 128]⟩
abbrev S4x128x4x128 : Shape := ⟨4, ![4, 128, 4, 128]⟩
abbrev S1x4x128x4x256 : Shape := ⟨5, ![1, 4, 128, 4, 256]⟩
abbrev S4x128x4x256 : Shape := ⟨4, ![4, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4 : Shape := ⟨2, ![1, 4]⟩
abbrev S128x4 : Shape := ⟨2, ![128, 4]⟩
abbrev S4x4x128x128 : Shape := ⟨4, ![4, 4, 128, 128]⟩
abbrev S1x4x128x128 : Shape := ⟨4, ![1, 4, 128, 128]⟩
abbrev S4x4x256x128 : Shape := ⟨4, ![4, 4, 256, 128]⟩
abbrev S1x128x4x1 : Shape := ⟨4, ![1, 128, 4, 1]⟩
abbrev S1x4x1x1 : Shape := ⟨4, ![1, 4, 1, 1]⟩
abbrev S4x2048x4 : Shape := ⟨3, ![4, 2048, 4]⟩
abbrev S4x2048x4x1 : Shape := ⟨4, ![4, 2048, 4, 1]⟩

abbrev nBuf : Space → Nat
  | .hbm => 246
  | .vmem => 0
  | .smem => 0
  | _ => 0

abbrev hbmTy0_0 (i : Nat) : BufTy := match i % 128 with
  | 0 => ⟨S4x2048x8704, .f32⟩
  | 1 => ⟨S4, .f32⟩
  | 2 => ⟨S_, .f32⟩
  | 3 => ⟨S4, .f32⟩
  | 4 => ⟨S4, .f32⟩
  | 5 => ⟨S_, .f32⟩
  | 6 => ⟨S4, .f32⟩
  | 7 => ⟨S4, .f32⟩
  | 8 => ⟨S4, .f32⟩
  | 9 => ⟨S4, .f32⟩
  | 10 => ⟨S4, .f32⟩
  | 11 => ⟨S2048, .i32⟩
  | 12 => ⟨S4x2048x512, .f32⟩
  | 13 => ⟨S4x2048x512, .f32⟩
  | 14 => ⟨S4x2048x1536, .f32⟩
  | 15 => ⟨S4x2048x1536, .f32⟩
  | 16 => ⟨S4x2048x1536, .f32⟩
  | 17 => ⟨S4x2048x512, .f32⟩
  | 18 => ⟨S4x2048x512, .f32⟩
  | 19 => ⟨S4x2048x1024, .f32⟩
  | 20 => ⟨S4x2048x1024, .f32⟩
  | 21 => ⟨S4x2048x4x128, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S2048, .f32⟩
  | 31 => ⟨S2048x1, .f32⟩
  | 32 => ⟨S1x64, .f32⟩
  | 33 => ⟨S2048x64, .f32⟩
  | 34 => ⟨S2048x64, .f32⟩
  | 35 => ⟨S2048x64, .f32⟩
  | 36 => ⟨S2048x64, .f32⟩
  | 37 => ⟨S2048x1x64, .f32⟩
  | 38 => ⟨S2048x64, .f32⟩
  | 39 => ⟨S2048x1x64, .f32⟩
  | 40 => ⟨S4x2048x4x64, .f32⟩
  | 41 => ⟨S4x2048x4x64, .f32⟩
  | 42 => ⟨S1x2048x1x64, .f32⟩
  | 43 => ⟨S4x2048x4x64, .f32⟩
  | 44 => ⟨S4x2048x4x64, .f32⟩
  | 45 => ⟨S1x2048x1x64, .f32⟩
  | 46 => ⟨S4x2048x4x64, .f32⟩
  | 47 => ⟨S4x2048x4x64, .f32⟩
  | 48 => ⟨S4x2048x4x64, .f32⟩
  | 49 => ⟨S1x2048x1x64, .f32⟩
  | 50 => ⟨S4x2048x4x64, .f32⟩
  | 51 => ⟨S4x2048x4x64, .f32⟩
  | 52 => ⟨S1x2048x1x64, .f32⟩
  | 53 => ⟨S4x2048x4x64, .f32⟩
  | 54 => ⟨S4x2048x4x64, .f32⟩
  | 55 => ⟨S4x2048x4x64, .f32⟩
  | 56 => ⟨S4x2048x4x128, .f32⟩
  | 57 => ⟨S4x2048x4x128, .f32⟩
  | 58 => ⟨S64, .f32⟩
  | 59 => ⟨S64, .f32⟩
  | 60 => ⟨S_, .f32⟩
  | 61 => ⟨S64, .f32⟩
  | 62 => ⟨S64, .f32⟩
  | 63 => ⟨S_, .f32⟩
  | 64 => ⟨S64, .f32⟩
  | 65 => ⟨S64, .f32⟩
  | 66 => ⟨S2048, .f32⟩
  | 67 => ⟨S2048x1, .f32⟩
  | 68 => ⟨S1x64, .f32⟩
  | 69 => ⟨S2048x64, .f32⟩
  | 70 => ⟨S2048x64, .f32⟩
  | 71 => ⟨S2048x64, .f32⟩
  | 72 => ⟨S2048x64, .f32⟩
  | 73 => ⟨S2048x1x64, .f32⟩
  | 74 => ⟨S2048x64, .f32⟩
  | 75 => ⟨S2048x1x64, .f32⟩
  | 76 => ⟨S4x2048x4x64, .f32⟩
  | 77 => ⟨S4x2048x4x64, .f32⟩
  | 78 => ⟨S1x2048x1x64, .f32⟩
  | 79 => ⟨S4x2048x4x64, .f32⟩
  | 80 => ⟨S4x2048x4x64, .f32⟩
  | 81 => ⟨S1x2048x1x64, .f32⟩
  | 82 => ⟨S4x2048x4x64, .f32⟩
  | 83 => ⟨S4x2048x4x64, .f32⟩
  | 84 => ⟨S4x2048x4x64, .f32⟩
  | 85 => ⟨S1x2048x1x64, .f32⟩
  | 86 => ⟨S4x2048x4x64, .f32⟩
  | 87 => ⟨S4x2048x4x64, .f32⟩
  | 88 => ⟨S1x2048x1x64, .f32⟩
  | 89 => ⟨S4x2048x4x64, .f32⟩
  | 90 => ⟨S4x2048x4x64, .f32⟩
  | 91 => ⟨S4x2048x4x64, .f32⟩
  | 92 => ⟨S4x2048x4x128, .f32⟩
  | 93 => ⟨S_, .f32⟩
  | 94 => ⟨S4x2048x4x128, .f32⟩
  | 95 => ⟨S4x2048x4x128, .f32⟩
  | 96 => ⟨S4x2048x4x256, .f32⟩
  | 97 => ⟨S_, .f32⟩
  | 98 => ⟨S4x4x128x256, .f32⟩
  | 99 => ⟨S4x16x128x4x128, .f32⟩
  | 100 => ⟨S16x4x128x4x128, .f32⟩
  | 101 => ⟨S4x16x128x4x128, .f32⟩
  | 102 => ⟨S16x4x128x4x128, .f32⟩
  | 103 => ⟨S4x16x128x4x256, .f32⟩
  | 104 => ⟨S16x4x128x4x256, .f32⟩
  | 105 => ⟨S_, .f32⟩
  | 106 => ⟨S16x4x128x4x256, .f32⟩
  | 107 => ⟨S_, .i32⟩
  | 108 => ⟨S16x4x128x4x128, .f32⟩
  | 109 => ⟨S16x4x128x4x128, .f32⟩
  | 110 => ⟨S16x4x128x4x256, .f32⟩
  | 111 => ⟨S4, .f32⟩
  | 112 => ⟨S_, .i32⟩
  | 113 => ⟨S4x4x128x256, .f32⟩
  | 114 => ⟨S16x4x128x4x256, .f32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S1x4x128x4x128, .f32⟩
  | 122 => ⟨S4x128x4x128, .f32⟩
  | 123 => ⟨S_, .i32⟩
  | 124 => ⟨S_, .i32⟩
  | 125 => ⟨S_, .i32⟩
  | 126 => ⟨S_, .i32⟩
  | 127 => ⟨S1x4x128x4x128, .f32⟩
  | _ => ⟨S4x2048x8704, .f32⟩

abbrev hbmTy0_1 (i : Nat) : BufTy := match i % 128 with
  | 0 => ⟨S4x128x4x128, .f32⟩
  | 1 => ⟨S_, .i32⟩
  | 2 => ⟨S_, .i32⟩
  | 3 => ⟨S_, .i32⟩
  | 4 => ⟨S_, .i32⟩
  | 5 => ⟨S1x4x128x4x256, .f32⟩
  | 6 => ⟨S4x128x4x256, .f32⟩
  | 7 => ⟨S128, .f32⟩
  | 8 => ⟨S128x1, .f32⟩
  | 9 => ⟨S1x128, .f32⟩
  | 10 => ⟨S128x128, .f32⟩
  | 11 => ⟨S128x128, .f32⟩
  | 12 => ⟨S128x128, .f32⟩
  | 13 => ⟨S_, .f32⟩
  | 14 => ⟨S128x128, .f32⟩
  | 15 => ⟨S128x128, .i1⟩
  | 16 => ⟨S4x1x1, .f32⟩
  | 17 => ⟨S_, .f32⟩
  | 18 => ⟨S128x128, .f32⟩
  | 19 => ⟨S128x128, .f32⟩
  | 20 => ⟨S1x128x128, .f32⟩
  | 21 => ⟨S4x128x128, .f32⟩
  | 22 => ⟨S4x128x128, .f32⟩
  | 23 => ⟨S4x128x128, .f32⟩
  | 24 => ⟨S4x128x128, .f32⟩
  | 25 => ⟨S_, .f32⟩
  | 26 => ⟨S_, .f32⟩
  | 27 => ⟨S4x128x128, .i1⟩
  | 28 => ⟨S4x128x128, .f32⟩
  | 29 => ⟨S4x128x128, .f32⟩
  | 30 => ⟨S1x4, .f32⟩
  | 31 => ⟨S128x1, .f32⟩
  | 32 => ⟨S_, .f32⟩
  | 33 => ⟨S128x1, .f32⟩
  | 34 => ⟨S128x1, .f32⟩
  | 35 => ⟨S128x4, .f32⟩
  | 36 => ⟨S128x4, .f32⟩
  | 37 => ⟨S128x4, .f32⟩
  | 38 => ⟨S128x4, .f32⟩
  | 39 => ⟨S1x4, .f32⟩
  | 40 => ⟨S128x1, .f32⟩
  | 41 => ⟨S_, .f32⟩
  | 42 => ⟨S128x1, .f32⟩
  | 43 => ⟨S128x1, .f32⟩
  | 44 => ⟨S128x4, .f32⟩
  | 45 => ⟨S128x4, .f32⟩
  | 46 => ⟨S128x4, .f32⟩
  | 47 => ⟨S128x4, .f32⟩
  | 48 => ⟨S_, .f32⟩
  | 49 => ⟨S4, .f32⟩
  | 50 => ⟨S4, .f32⟩
  | 51 => ⟨S4, .f32⟩
  | 52 => ⟨S4x4x128x128, .f32⟩
  | 53 => ⟨S1x4x128x128, .f32⟩
  | 54 => ⟨S4x4x128x128, .f32⟩
  | 55 => ⟨S4x4x128x128, .f32⟩
  | 56 => ⟨S4x4x256x128, .f32⟩
  | 57 => ⟨S4x128x4x256, .f32⟩
  | 58 => ⟨S4x4x256x128, .f32⟩
  | 59 => ⟨S4x128x4x256, .f32⟩
  | 60 => ⟨S1x128x4x1, .f32⟩
  | 61 => ⟨S4x128x4x256, .f32⟩
  | 62 => ⟨S4x128x4x256, .f32⟩
  | 63 => ⟨S4x128x4x256, .f32⟩
  | 64 => ⟨S1x4x1x1, .f32⟩
  | 65 => ⟨S4x4x128x256, .f32⟩
  | 66 => ⟨S4x4x128x256, .f32⟩
  | 67 => ⟨S1x128x4x1, .f32⟩
  | 68 => ⟨S4x128x4x128, .f32⟩
  | 69 => ⟨S4x128x4x128, .f32⟩
  | 70 => ⟨S4x4x128x256, .f32⟩
  | 71 => ⟨S4x4x128x256, .f32⟩
  | 72 => ⟨S1x4x128x4x256, .f32⟩
  | 73 => ⟨S_, .i32⟩
  | 74 => ⟨S_, .i32⟩
  | 75 => ⟨S_, .i32⟩
  | 76 => ⟨S_, .i32⟩
  | 77 => ⟨S16x4x128x4x256, .f32⟩
  | 78 => ⟨S_, .i32⟩
  | 79 => ⟨S_, .i32⟩
  | 80 => ⟨S4x16x128x4x256, .f32⟩
  | 81 => ⟨S4x2048x4x256, .f32⟩
  | 82 => ⟨S4x2048x1024, .f32⟩
  | 83 => ⟨S_, .f32⟩
  | 84 => ⟨S4x2048x4, .f32⟩
  | 85 => ⟨S4x2048x4x1, .f32⟩
  | 86 => ⟨S_, .f32⟩
  | 87 => ⟨S4x2048x4x1, .f32⟩
  | 88 => ⟨S4x2048x4x1, .f32⟩
  | 89 => ⟨S4x2048x4x256, .f32⟩
  | 90 => ⟨S4x2048x4x256, .f32⟩
  | 91 => ⟨S4x2048x4x256, .f32⟩
  | 92 => ⟨S_, .f32⟩
  | 93 => ⟨S4x2048x4, .f32⟩
  | 94 => ⟨S4x2048x4x1, .f32⟩
  | 95 => ⟨S_, .f32⟩
  | 96 => ⟨S4x2048x4x1, .f32⟩
  | 97 => ⟨S4x2048x4x1, .f32⟩
  | 98 => ⟨S4x2048x4x256, .f32⟩
  | 99 => ⟨S4x2048x4x256, .f32⟩
  | 100 => ⟨S_, .f32⟩
  | 101 => ⟨S4x2048x4x1, .f32⟩
  | 102 => ⟨S4x2048x4x1, .f32⟩
  | 103 => ⟨S4x2048x4x1, .f32⟩
  | 104 => ⟨S4x2048x4x256, .f32⟩
  | 105 => ⟨S4x2048x4x256, .f32⟩
  | 106 => ⟨S4x2048x1024, .f32⟩
  | 107 => ⟨S4x2048x1024, .f32⟩
  | 108 => ⟨S4x2048x1024, .f32⟩
  | 109 => ⟨S_, .f32⟩
  | 110 => ⟨S4x2048x1024, .f32⟩
  | 111 => ⟨S4x2048x1024, .f32⟩
  | 112 => ⟨S_, .f32⟩
  | 113 => ⟨S4x2048x1024, .f32⟩
  | 114 => ⟨S4x2048x1024, .f32⟩
  | 115 => ⟨S4x2048x1024, .f32⟩
  | 116 => ⟨S4x2048x1024, .f32⟩
  | 117 => ⟨S4x2048x1024, .bf16⟩
  | _ => ⟨S4x2048x8704, .f32⟩

abbrev hbmTy (i : Nat) : BufTy := match i / 128 with
  | 0 => hbmTy0_0 i
  | 1 => hbmTy0_1 i
  | _ => ⟨S4x2048x8704, .f32⟩

abbrev bufTy : (tb : Table) → Fin (tcTables nBuf tb) → BufTy
  | .hbm, ⟨i, _⟩ => hbmTy i
  | _, _ => ⟨S4x2048x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_1 : Ref sig .tc := ⟨.hbm, 24, rfl⟩
abbrev main_v21 : Ref sig .tc := ⟨.hbm, 25, rfl⟩
abbrev main_v22 : Ref sig .tc := ⟨.hbm, 26, rfl⟩
abbrev main_cst_2 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_cst_3 : Ref sig .tc := ⟨.hbm, 60, rfl⟩
abbrev main_v55 : Ref sig .tc := ⟨.hbm, 61, rfl⟩
abbrev main_v56 : Ref sig .tc := ⟨.hbm, 62, rfl⟩
abbrev main_cst_4 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_cst_5 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_cst_6 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_cst_7 : Ref sig .tc := ⟨.hbm, 105, rfl⟩
abbrev main_v96 : Ref sig .tc := ⟨.hbm, 106, rfl⟩
abbrev main_c : Ref sig .tc := ⟨.hbm, 107, rfl⟩
abbrev main_v97_0 : Ref sig .tc := ⟨.hbm, 108, rfl⟩
abbrev main_v97_1 : Ref sig .tc := ⟨.hbm, 109, rfl⟩
abbrev main_v97_2 : Ref sig .tc := ⟨.hbm, 110, rfl⟩
abbrev main_v97_3 : Ref sig .tc := ⟨.hbm, 111, rfl⟩
abbrev main_v97_4 : Ref sig .tc := ⟨.hbm, 112, rfl⟩
abbrev main_v97_5 : Ref sig .tc := ⟨.hbm, 113, rfl⟩
abbrev main_v97_6 : Ref sig .tc := ⟨.hbm, 114, rfl⟩
abbrev main_while0c_c_19 : Ref sig .tc := ⟨.hbm, 115, rfl⟩
abbrev main_while0c_v123 : Ref sig .tc := ⟨.hbm, 116, rfl⟩
abbrev main_while0b_call0_c : Ref sig .tc := ⟨.hbm, 117, rfl⟩
abbrev main_while0b_call0_c_0 : Ref sig .tc := ⟨.hbm, 118, rfl⟩
abbrev main_while0b_call0_c_1 : Ref sig .tc := ⟨.hbm, 119, rfl⟩
abbrev main_while0b_call0_c_2 : Ref sig .tc := ⟨.hbm, 120, rfl⟩
abbrev main_while0b_call0_v0 : Ref sig .tc := ⟨.hbm, 121, rfl⟩
abbrev main_while0b_v123 : Ref sig .tc := ⟨.hbm, 122, rfl⟩
abbrev main_while0b_call1_c : Ref sig .tc := ⟨.hbm, 123, rfl⟩
abbrev main_while0b_call1_c_0 : Ref sig .tc := ⟨.hbm, 124, rfl⟩
abbrev main_while0b_call1_c_1 : Ref sig .tc := ⟨.hbm, 125, rfl⟩
abbrev main_while0b_call1_c_2 : Ref sig .tc := ⟨.hbm, 126, rfl⟩
abbrev main_while0b_call1_v0 : Ref sig .tc := ⟨.hbm, 127, rfl⟩
abbrev main_while0b_v124 : Ref sig .tc := ⟨.hbm, 128, rfl⟩
abbrev main_while0b_call2_c : Ref sig .tc := ⟨.hbm, 129, rfl⟩
abbrev main_while0b_call2_c_0 : Ref sig .tc := ⟨.hbm, 130, rfl⟩
abbrev main_while0b_call2_c_1 : Ref sig .tc := ⟨.hbm, 131, rfl⟩
abbrev main_while0b_call2_c_2 : Ref sig .tc := ⟨.hbm, 132, rfl⟩
abbrev main_while0b_call2_v0 : Ref sig .tc := ⟨.hbm, 133, rfl⟩
abbrev main_while0b_v125 : Ref sig .tc := ⟨.hbm, 134, rfl⟩
abbrev main_while0b_v126 : Ref sig .tc := ⟨.hbm, 135, rfl⟩
abbrev main_while0b_v127 : Ref sig .tc := ⟨.hbm, 136, rfl⟩
abbrev main_while0b_v128 : Ref sig .tc := ⟨.hbm, 137, rfl⟩
abbrev main_while0b_v129 : Ref sig .tc := ⟨.hbm, 138, rfl⟩
abbrev main_while0b_v130 : Ref sig .tc := ⟨.hbm, 139, rfl⟩
abbrev main_while0b_v131 : Ref sig .tc := ⟨.hbm, 140, rfl⟩
abbrev main_while0b_cst_19 : Ref sig .tc := ⟨.hbm, 141, rfl⟩
abbrev main_while0b_v132 : Ref sig .tc := ⟨.hbm, 142, rfl⟩
abbrev main_while0b_v133 : Ref sig .tc := ⟨.hbm, 143, rfl⟩
abbrev main_while0b_v134 : Ref sig .tc := ⟨.hbm, 144, rfl⟩
abbrev main_while0b_cst_20 : Ref sig .tc := ⟨.hbm, 145, rfl⟩
abbrev main_while0b_v135 : Ref sig .tc := ⟨.hbm, 146, rfl⟩
abbrev main_while0b_v136 : Ref sig .tc := ⟨.hbm, 147, rfl⟩
abbrev main_while0b_v137 : Ref sig .tc := ⟨.hbm, 148, rfl⟩
abbrev main_while0b_v138 : Ref sig .tc := ⟨.hbm, 149, rfl⟩
abbrev main_while0b_v139 : Ref sig .tc := ⟨.hbm, 150, rfl⟩
abbrev main_while0b_v140 : Ref sig .tc := ⟨.hbm, 151, rfl⟩
abbrev main_while0b_v141 : Ref sig .tc := ⟨.hbm, 152, rfl⟩
abbrev main_while0b_cst_21 : Ref sig .tc := ⟨.hbm, 153, rfl⟩
abbrev main_while0b_call3_v0 : Ref sig .tc := ⟨.hbm, 154, rfl⟩
abbrev main_while0b_call3_v1 : Ref sig .tc := ⟨.hbm, 155, rfl⟩
abbrev main_while0b_call3_v2 : Ref sig .tc := ⟨.hbm, 156, rfl⟩
abbrev main_while0b_v142 : Ref sig .tc := ⟨.hbm, 157, rfl⟩
abbrev main_while0b_v143 : Ref sig .tc := ⟨.hbm, 158, rfl⟩
abbrev main_while0b_v144 : Ref sig .tc := ⟨.hbm, 159, rfl⟩
abbrev main_while0b_cst_22 : Ref sig .tc := ⟨.hbm, 160, rfl⟩
abbrev main_while0b_v145 : Ref sig .tc := ⟨.hbm, 161, rfl⟩
abbrev main_while0b_v146 : Ref sig .tc := ⟨.hbm, 162, rfl⟩
abbrev main_while0b_v147 : Ref sig .tc := ⟨.hbm, 163, rfl⟩
abbrev main_while0b_v148 : Ref sig .tc := ⟨.hbm, 164, rfl⟩
abbrev main_while0b_v149 : Ref sig .tc := ⟨.hbm, 165, rfl⟩
abbrev main_while0b_v150 : Ref sig .tc := ⟨.hbm, 166, rfl⟩
abbrev main_while0b_v151 : Ref sig .tc := ⟨.hbm, 167, rfl⟩
abbrev main_while0b_v152 : Ref sig .tc := ⟨.hbm, 168, rfl⟩
abbrev main_while0b_cst_23 : Ref sig .tc := ⟨.hbm, 169, rfl⟩
abbrev main_while0b_v153 : Ref sig .tc := ⟨.hbm, 170, rfl⟩
abbrev main_while0b_v154 : Ref sig .tc := ⟨.hbm, 171, rfl⟩
abbrev main_while0b_v155 : Ref sig .tc := ⟨.hbm, 172, rfl⟩
abbrev main_while0b_v156 : Ref sig .tc := ⟨.hbm, 173, rfl⟩
abbrev main_while0b_v157 : Ref sig .tc := ⟨.hbm, 174, rfl⟩
abbrev main_while0b_v158 : Ref sig .tc := ⟨.hbm, 175, rfl⟩
abbrev main_while0b_cst_24 : Ref sig .tc := ⟨.hbm, 176, rfl⟩
abbrev main_while0b_v159 : Ref sig .tc := ⟨.hbm, 177, rfl⟩
abbrev main_while0b_v160 : Ref sig .tc := ⟨.hbm, 178, rfl⟩
abbrev main_while0b_v161 : Ref sig .tc := ⟨.hbm, 179, rfl⟩
abbrev main_while0b_v162 : Ref sig .tc := ⟨.hbm, 180, rfl⟩
abbrev main_while0b_v163 : Ref sig .tc := ⟨.hbm, 181, rfl⟩
abbrev main_while0b_v164 : Ref sig .tc := ⟨.hbm, 182, rfl⟩
abbrev main_while0b_v165 : Ref sig .tc := ⟨.hbm, 183, rfl⟩
abbrev main_while0b_v166 : Ref sig .tc := ⟨.hbm, 184, rfl⟩
abbrev main_while0b_v167 : Ref sig .tc := ⟨.hbm, 185, rfl⟩
abbrev main_while0b_v168 : Ref sig .tc := ⟨.hbm, 186, rfl⟩
abbrev main_while0b_v169 : Ref sig .tc := ⟨.hbm, 187, rfl⟩
abbrev main_while0b_v170 : Ref sig .tc := ⟨.hbm, 188, rfl⟩
abbrev main_while0b_v171 : Ref sig .tc := ⟨.hbm, 189, rfl⟩
abbrev main_while0b_v172 : Ref sig .tc := ⟨.hbm, 190, rfl⟩
abbrev main_while0b_v173 : Ref sig .tc := ⟨.hbm, 191, rfl⟩
abbrev main_while0b_v174 : Ref sig .tc := ⟨.hbm, 192, rfl⟩
abbrev main_while0b_v175 : Ref sig .tc := ⟨.hbm, 193, rfl⟩
abbrev main_while0b_v176 : Ref sig .tc := ⟨.hbm, 194, rfl⟩
abbrev main_while0b_v177 : Ref sig .tc := ⟨.hbm, 195, rfl⟩
abbrev main_while0b_v178 : Ref sig .tc := ⟨.hbm, 196, rfl⟩
abbrev main_while0b_v179 : Ref sig .tc := ⟨.hbm, 197, rfl⟩
abbrev main_while0b_v180 : Ref sig .tc := ⟨.hbm, 198, rfl⟩
abbrev main_while0b_v181 : Ref sig .tc := ⟨.hbm, 199, rfl⟩
abbrev main_while0b_call4_v0 : Ref sig .tc := ⟨.hbm, 200, rfl⟩
abbrev main_while0b_call4_c : Ref sig .tc := ⟨.hbm, 201, rfl⟩
abbrev main_while0b_call4_c_0 : Ref sig .tc := ⟨.hbm, 202, rfl⟩
abbrev main_while0b_call4_c_1 : Ref sig .tc := ⟨.hbm, 203, rfl⟩
abbrev main_while0b_call4_c_2 : Ref sig .tc := ⟨.hbm, 204, rfl⟩
abbrev main_while0b_v182 : Ref sig .tc := ⟨.hbm, 205, rfl⟩
abbrev main_while0b_c_25 : Ref sig .tc := ⟨.hbm, 206, rfl⟩
abbrev main_while0b_v183 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_cst_8 : Ref sig .tc := ⟨.hbm, 211, rfl⟩
abbrev main_v101 : Ref sig .tc := ⟨.hbm, 212, rfl⟩
abbrev main_v102 : Ref sig .tc := ⟨.hbm, 213, rfl⟩
abbrev main_cst_9 : Ref sig .tc := ⟨.hbm, 214, rfl⟩
abbrev main_v103 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_v107 : Ref sig .tc := ⟨.hbm, 219, rfl⟩
abbrev main_cst_10 : Ref sig .tc := ⟨.hbm, 220, rfl⟩
abbrev main_v108 : Ref sig .tc := ⟨.hbm, 221, rfl⟩
abbrev main_v109 : Ref sig .tc := ⟨.hbm, 222, rfl⟩
abbrev main_cst_11 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_cst_12 : Ref sig .tc := ⟨.hbm, 228, rfl⟩
abbrev main_v114 : Ref sig .tc := ⟨.hbm, 229, rfl⟩
abbrev main_v115 : Ref sig .tc := ⟨.hbm, 230, rfl⟩
abbrev main_v116 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_call5_v0 : Ref sig .tc := ⟨.hbm, 235, rfl⟩
abbrev main_call5_v1 : Ref sig .tc := ⟨.hbm, 236, rfl⟩
abbrev main_call5_cst : Ref sig .tc := ⟨.hbm, 237, rfl⟩
abbrev main_call5_v2 : Ref sig .tc := ⟨.hbm, 238, rfl⟩
abbrev main_call5_v3 : Ref sig .tc := ⟨.hbm, 239, rfl⟩
abbrev main_call5_cst_0 : Ref sig .tc := ⟨.hbm, 240, rfl⟩
abbrev main_call5_v4 : Ref sig .tc := ⟨.hbm, 241, rfl⟩
abbrev main_call5_v5 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩

abbrev nD : Nat := 1
abbrev τ : Topo := Topo.v7x

variable {F : FTy → Type} [FloatOps F]

abbrev main_while0_count : Scf.Loop 32 := ⟨0#32, 16#32, 1#32⟩
-- ==== Inp.lean ====
abbrev S4x2048x2048 : Shape := ⟨3, ![4, 2048, 2048]⟩
abbrev S4x2048 : Shape := ⟨2, ![4, 2048]⟩
abbrev S4x2048x8704 : Shape := ⟨3, ![4, 2048, 8704]⟩
abbrev S1x2048x8704 : Shape := ⟨3, ![1, 2048, 8704]⟩
abbrev S4x1x2048 : Shape := ⟨3, ![4, 1, 2048]⟩
abbrev S1x2048x2048 : Shape := ⟨3, ![1, 2048, 2048]⟩
abbrev S1x1x2048 : Shape := ⟨3, ![1, 1, 2048]⟩
abbrev S1x2048x512 : Shape := ⟨3, ![1, 2048, 512]⟩
abbrev S2048x2048 : Shape := ⟨2, ![2048, 2048]⟩
abbrev S1x2048 : Shape := ⟨2, ![1, 2048]⟩
abbrev S2048x512 : Shape := ⟨2, ![2048, 512]⟩

abbrev nBuf : Space → Nat
  | .hbm => 9
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048, .f32⟩
  | .hbm, ⟨3, _⟩ => ⟨S4x2048x8704, .f32⟩
  | .hbm, ⟨4, _⟩ => ⟨S1x2048x8704, .f32⟩
  | .hbm, ⟨5, _⟩ => ⟨S1x2048x8704, .bf16⟩
  | .hbm, ⟨6, _⟩ => ⟨S4x1x2048, .f32⟩
  | .hbm, ⟨7, _⟩ => ⟨S4x1x2048, .f32⟩
  | .hbm, ⟨8, _⟩ => ⟨S4x2048x8704, .f32⟩
  | .local _ .vmem, ⟨0, _⟩ => ⟨S1x2048x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .f32⟩
  | .local _ .vmem, ⟨8, _⟩ => ⟨S1x2048x512, .f32⟩
  | .local _ .vmem, ⟨9, _⟩ => ⟨S2048x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 17], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InpRefIdeal.lean ====
abbrev S4x2048x2048 : Shape := ⟨3, ![4, 2048, 2048]⟩
abbrev S4x2048 : Shape := ⟨2, ![4, 2048]⟩
abbrev S4x2048x8704 : Shape := ⟨3, ![4, 2048, 8704]⟩
abbrev S4x1x2048 : Shape := ⟨3, ![4, 1, 2048]⟩
abbrev S_ : Shape := ⟨0, ![]⟩
abbrev S1x2048x8704 : Shape := ⟨3, ![1, 2048, 8704]⟩
abbrev S2048x8704 : Shape := ⟨2, ![2048, 8704]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048, .f32⟩
  | .hbm, ⟨3, _⟩ => ⟨S4x2048x8704, .f32⟩
  | .hbm, ⟨4, _⟩ => ⟨S4x1x2048, .f32⟩
  | .hbm, ⟨5, _⟩ => ⟨S_, .f32⟩
  | .hbm, ⟨6, _⟩ => ⟨S4x1x2048, .f32⟩
  | .hbm, ⟨7, _⟩ => ⟨S4x1x2048, .f32⟩
  | .hbm, ⟨8, _⟩ => ⟨S4x2048x2048, .f32⟩
  | .hbm, ⟨9, _⟩ => ⟨S4x2048x2048, .f32⟩
  | .hbm, ⟨10, _⟩ => ⟨S4x1x2048, .f32⟩
  | .hbm, ⟨11, _⟩ => ⟨S4x2048x2048, .f32⟩
  | .hbm, ⟨12, _⟩ => ⟨S4x2048x2048, .f32⟩
  | .hbm, ⟨13, _⟩ => ⟨S1x2048x8704, .f32⟩
  | .hbm, ⟨14, _⟩ => ⟨S2048x8704, .f32⟩
  | .hbm, ⟨15, _⟩ => ⟨S4x2048x8704, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Outp.lean ====
abbrev S4x2048x512 : Shape := ⟨3, ![4, 2048, 512]⟩
abbrev S4x2048x1024 : Shape := ⟨3, ![4, 2048, 1024]⟩
abbrev S4x2048x2048 : Shape := ⟨3, ![4, 2048, 2048]⟩
abbrev S4x2048 : Shape := ⟨2, ![4, 2048]⟩
abbrev S1x2048x2048 : Shape := ⟨3, ![1, 2048, 2048]⟩
abbrev S4x1x2048 : Shape := ⟨3, ![4, 1, 2048]⟩
abbrev S1x512x512 : Shape := ⟨3, ![1, 512, 512]⟩
abbrev S1x512x1024 : Shape := ⟨3, ![1, 512, 1024]⟩
abbrev S1x512x2048 : Shape := ⟨3, ![1, 512, 2048]⟩
abbrev S1x1x2048 : Shape := ⟨3, ![1, 1, 2048]⟩
abbrev S512x512 : Shape := ⟨2, ![512, 512]⟩
abbrev S512x2048 : Shape := ⟨2, ![512, 2048]⟩
abbrev S512x1024 : Shape := ⟨2, ![512, 1024]⟩
abbrev S1x1024x2048 : Shape := ⟨3, ![1, 1024, 2048]⟩
abbrev S1024x2048 : Shape := ⟨2, ![1024, 2048]⟩
abbrev S1x2048 : Shape := ⟨2, ![1, 2048]⟩
abbrev S512 : Shape := ⟨1, ![512]⟩
abbrev S512x1 : Shape := ⟨2, ![512, 1]⟩

abbrev nBuf : Space → Nat
  | .hbm => 19
  | .vmem => 21
  | .smem => 0
  | _ => 0

abbrev bufTy : (tb : Table) → Fin (tcTables nBuf tb) → BufTy
  | .hbm, ⟨0, _⟩ => ⟨S4x2048x512, .bf16⟩
  | .hbm, ⟨1, _⟩ => ⟨S4x2048x512, .bf16⟩
  | .hbm, ⟨2, _⟩ => ⟨S4x2048x1024, .bf16⟩
  | .hbm, ⟨3, _⟩ => ⟨S4x2048x2048, .f32⟩
  | .hbm, ⟨4, _⟩ => ⟨S4x2048x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S1x2048x2048, .f32⟩
  | .hbm, ⟨11, _⟩ => ⟨S1x2048x2048, .bf16⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x2048x2048, .f32⟩
  | .hbm, ⟨18, _⟩ => ⟨S4x2048x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x2048x2048, .bf16⟩
  | .local _ .vmem, ⟨7, _⟩ => ⟨S1x512x2048, .f32⟩
  | .local _ .vmem, ⟨8, _⟩ => ⟨S1x512x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x512x2048, .f32⟩
  | .local _ .vmem, ⟨18, _⟩ => ⟨S1x512x2048, .f32⟩
  | .local _ .vmem, ⟨19, _⟩ => ⟨S1x512x2048, .bf16⟩
  | .local _ .vmem, ⟨20, _⟩ => ⟨S1x512x2048, .bf16⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutpRefIdeal.lean ====
abbrev S4x2048x512 : Shape := ⟨3, ![4, 2048, 512]⟩
abbrev S4x2048x1024 : Shape := ⟨3, ![4, 2048, 1024]⟩
abbrev S4x2048x2048 : Shape := ⟨3, ![4, 2048, 2048]⟩
abbrev S4x2048 : Shape := ⟨2, ![4, 2048]⟩
abbrev S_ : Shape := ⟨0, ![]⟩
abbrev S4x1x2048 : Shape := ⟨3, ![4, 1, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S4x2048x1 : Shape := ⟨3, ![4, 2048, 1]⟩
abbrev S1x1x2048 : Shape := ⟨3, ![1, 1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S4x2048x512, .bf16⟩
  | .hbm, ⟨2, _⟩ => ⟨S4x2048x1024, .bf16⟩
  | .hbm, ⟨3, _⟩ => ⟨S4x2048x2048, .f32⟩
  | .hbm, ⟨4, _⟩ => ⟨S4x2048x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048x2048, .bf16⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x1x2048, .f32⟩
  | .hbm, ⟨16, _⟩ => ⟨S1x2048x2048, .f32⟩
  | .hbm, ⟨17, _⟩ => ⟨S2048x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x1, .f32⟩
  | .hbm, ⟨47, _⟩ => ⟨S4x2048x2048, .f32⟩
  | .hbm, ⟨48, _⟩ => ⟨S4x2048x2048, .f32⟩
  | .hbm, ⟨49, _⟩ => ⟨S1x1x2048, .f32⟩
  | .hbm, ⟨50, _⟩ => ⟨S4x2048x2048, .f32⟩
  | .hbm, ⟨51, _⟩ => ⟨S4x2048x2048, .f32⟩
  | .hbm, ⟨52, _⟩ => ⟨S1x1x2048, .f32⟩
  | .hbm, ⟨53, _⟩ => ⟨S4x2048x2048, .f32⟩
  | .hbm, ⟨54, _⟩ => ⟨S4x2048x2048, .f32⟩
  | .hbm, ⟨55, _⟩ => ⟨S4x1x2048, .f32⟩
  | .hbm, ⟨56, _⟩ => ⟨S_, .f32⟩
  | .hbm, ⟨57, _⟩ => ⟨S4x1x2048, .f32⟩
  | .hbm, ⟨58, _⟩ => ⟨S4x1x2048, .f32⟩
  | .hbm, ⟨59, _⟩ => ⟨S4x2048x2048, .f32⟩
  | .hbm, ⟨60, _⟩ => ⟨S4x2048x2048, .f32⟩
  | .hbm, ⟨61, _⟩ => ⟨S4x1x2048, .f32⟩
  | .hbm, ⟨62, _⟩ => ⟨S4x2048x2048, .f32⟩
  | .hbm, ⟨63, _⟩ => ⟨S4x2048x2048, .f32⟩
  | .hbm, ⟨64, _⟩ => ⟨S4x2048x2048, .bf16⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Ffn.lean ====
abbrev S4x2048x2048 : Shape := ⟨3, ![4, 2048, 2048]⟩
abbrev S4x2048x8192 : Shape := ⟨3, ![4, 2048, 8192]⟩
abbrev S4x8192x2048 : Shape := ⟨3, ![4, 8192, 2048]⟩
abbrev S4x2048 : Shape := ⟨2, ![4, 2048]⟩
abbrev S1x2048x8192 : Shape := ⟨3, ![1, 2048, 8192]⟩
abbrev S1x8192x2048 : Shape := ⟨3, ![1, 8192, 2048]⟩
abbrev S4x1x2048 : Shape := ⟨3, ![4, 1, 2048]⟩
abbrev S1x1024x2048 : Shape := ⟨3, ![1, 1024, 2048]⟩
abbrev S1x2048x1024 : Shape := ⟨3, ![1, 2048, 1024]⟩
abbrev S1x1x2048 : Shape := ⟨3, ![1, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1024x1024 : Shape := ⟨3, ![1, 1024, 1024]⟩
abbrev S1x2048 : Shape := ⟨2, ![1, 2048]⟩
abbrev S1024 : Shape := ⟨1, ![1024]⟩
abbrev S1024x1 : Shape := ⟨2, ![1024, 1]⟩

abbrev nBuf : Space → Nat
  | .hbm => 15
  | .vmem => 11
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x8192, .f32⟩
  | .hbm, ⟨2, _⟩ => ⟨S4x8192x2048, .f32⟩
  | .hbm, ⟨3, _⟩ => ⟨S4x2048x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S1x2048x8192, .f32⟩
  | .hbm, ⟨8, _⟩ => ⟨S1x2048x8192, .bf16⟩
  | .hbm, ⟨9, _⟩ => ⟨S1x8192x2048, .f32⟩
  | .hbm, ⟨10, _⟩ => ⟨S1x8192x2048, .bf16⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x2048x2048, .f32⟩
  | .local _ .vmem, ⟨0, _⟩ => ⟨S1x1024x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1024x2048, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 1 → Memref sig .tc .vmem S1x1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, false]
-- ==== FfnRefIdeal.lean ====
abbrev S4x2048x2048 : Shape := ⟨3, ![4, 2048, 2048]⟩
abbrev S4x2048x8192 : Shape := ⟨3, ![4, 2048, 8192]⟩
abbrev S4x8192x2048 : Shape := ⟨3, ![4, 8192, 2048]⟩
abbrev S4x2048 : Shape := ⟨2, ![4, 2048]⟩
abbrev S1x2048x8192 : Shape := ⟨3, ![1, 2048, 8192]⟩
abbrev S2048x8192 : Shape := ⟨2, ![2048, 8192]⟩
abbrev S_ : Shape := ⟨0, ![]⟩
abbrev S1x8192x2048 : Shape := ⟨3, ![1, 8192, 2048]⟩
abbrev S8192x2048 : Shape := ⟨2, ![8192, 2048]⟩
abbrev S4x1x2048 : Shape := ⟨3, ![4, 1, 2048]⟩
abbrev S1x2048 : Shape := ⟨2, ![1, 2048]⟩
abbrev S2048 : Shape := ⟨1, ![2048]⟩
abbrev S4x2048x1 : Shape := ⟨3, ![4, 2048, 1]⟩
abbrev S1x1x2048 : Shape := ⟨3, ![1, 1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x8192, .f32⟩
  | .hbm, ⟨2, _⟩ => ⟨S4x8192x2048, .f32⟩
  | .hbm, ⟨3, _⟩ => ⟨S4x2048x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048x2048, .f32⟩
  | .hbm, ⟨8, _⟩ => ⟨S1x2048x8192, .f32⟩
  | .hbm, ⟨9, _⟩ => ⟨S2048x8192, .f32⟩
  | .hbm, ⟨10, _⟩ => ⟨S4x2048x8192, .f32⟩
  | .hbm, ⟨11, _⟩ => ⟨S_, .f32⟩
  | .hbm, ⟨12, _⟩ => ⟨S4x2048x8192, .f32⟩
  | .hbm, ⟨13, _⟩ => ⟨S4x2048x8192, .f32⟩
  | .hbm, ⟨14, _⟩ => ⟨S4x2048x8192, .f32⟩
  | .hbm, ⟨15, _⟩ => ⟨S1x8192x2048, .f32⟩
  | .hbm, ⟨16, _⟩ => ⟨S8192x2048, .f32⟩
  | .hbm, ⟨17, _⟩ => ⟨S4x2048x2048, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S4x1x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S_, .f32⟩
  | .hbm, ⟨42, _⟩ => ⟨S4x2048x1, .f32⟩
  | .hbm, ⟨43, _⟩ => ⟨S4x2048x1, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x2048x1, .f32⟩
  | .hbm, ⟨50, _⟩ => ⟨S4x2048x2048, .f32⟩
  | .hbm, ⟨51, _⟩ => ⟨S4x2048x2048, .f32⟩
  | .hbm, ⟨52, _⟩ => ⟨S1x1x2048, .f32⟩
  | .hbm, ⟨53, _⟩ => ⟨S4x2048x2048, .f32⟩
  | .hbm, ⟨54, _⟩ => ⟨S4x2048x2048, .f32⟩
  | .hbm, ⟨55, _⟩ => ⟨S1x1x2048, .f32⟩
  | .hbm, ⟨56, _⟩ => ⟨S4x2048x2048, .f32⟩
  | .hbm, ⟨57, _⟩ => ⟨S4x2048x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Ada.lean ====
abbrev S4x2048 : Shape := ⟨2, ![4, 2048]⟩
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S16x2048 : Shape := ⟨2, ![16, 2048]⟩
abbrev S4x1x12288 : Shape := ⟨3, ![4, 1, 12288]⟩
abbrev S4x16x12288 : Shape := ⟨3, ![4, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S8x2048, .f32⟩
  | .hbm, ⟨2, _⟩ => ⟨S4x2048x12288, .f32⟩
  | .hbm, ⟨3, _⟩ => ⟨S4x12288, .f32⟩
  | .hbm, ⟨4, _⟩ => ⟨S_, .f32⟩
  | .hbm, ⟨5, _⟩ => ⟨S4x2048, .f32⟩
  | .hbm, ⟨6, _⟩ => ⟨S16x2048, .f32⟩
  | .hbm, ⟨7, _⟩ => ⟨S4x1x12288, .f32⟩
  | .hbm, ⟨8, _⟩ => ⟨S4x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S4x2048 : Shape := ⟨2, ![4, 2048]⟩
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S16x2048 : Shape := ⟨2, ![16, 2048]⟩
abbrev S4x12288x16 : Shape := ⟨3, ![4, 12288, 16]⟩
abbrev S4x16x12288 : Shape := ⟨3, ![4, 16, 12288]⟩
abbrev S4x1x12288 : Shape := ⟨3, ![4, 1, 12288]⟩

abbrev nBuf : Space → Nat
  | .hbm => 21
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S8x2048, .f32⟩
  | .hbm, ⟨2, _⟩ => ⟨S4x2048x12288, .f32⟩
  | .hbm, ⟨3, _⟩ => ⟨S4x12288, .f32⟩
  | .hbm, ⟨4, _⟩ => ⟨S_, .f32⟩
  | .hbm, ⟨5, _⟩ => ⟨S4x2048, .f32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S16x2048, .f32⟩
  | .hbm, ⟨16, _⟩ => ⟨S4x12288x16, .f32⟩
  | .hbm, ⟨17, _⟩ => ⟨S4x16x12288, .f32⟩
  | .hbm, ⟨18, _⟩ => ⟨S4x1x12288, .f32⟩
  | .hbm, ⟨19, _⟩ => ⟨S4x16x12288, .f32⟩
  | .hbm, ⟨20, _⟩ => ⟨S4x16x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Conv.lean ====
abbrev S4x2048x8704 : Shape := ⟨3, ![4, 2048, 8704]⟩
abbrev S4x31x512 : Shape := ⟨3, ![4, 31, 512]⟩
abbrev S4x512 : Shape := ⟨2, ![4, 512]⟩
abbrev S_ : Shape := ⟨0, ![]⟩
abbrev S4x32x512 : Shape := ⟨3, ![4, 32, 512]⟩
abbrev S4x1x512 : Shape := ⟨3, ![4, 1, 512]⟩
abbrev S4x2048x512 : Shape := ⟨3, ![4, 2048, 512]⟩
abbrev S1x256x512 : Shape := ⟨3, ![1, 256, 512]⟩
abbrev S1x32x512 : Shape := ⟨3, ![1, 32, 512]⟩
abbrev S1x31x512 : Shape := ⟨3, ![1, 31, 512]⟩
abbrev S1x1x512 : Shape := ⟨3, ![1, 1, 512]⟩
abbrev S288x512 : Shape := ⟨2, ![288, 512]⟩
abbrev S32x512 : Shape := ⟨2, ![32, 512]⟩
abbrev S256x512 : Shape := ⟨2, ![256, 512]⟩
abbrev S1x512 : Shape := ⟨2, ![1, 512]⟩
abbrev S32 : Shape := ⟨1, ![32]⟩
abbrev S32x1 : Shape := ⟨2, ![32, 1]⟩

abbrev nBuf : Space → Nat
  | .hbm => 12
  | .vmem => 15
  | .smem => 0
  | _ => 0

abbrev bufTy : (tb : Table) → Fin (tcTables nBuf tb) → BufTy
  | .hbm, ⟨0, _⟩ => ⟨S4x2048x8704, .f32⟩
  | .hbm, ⟨1, _⟩ => ⟨S4x31x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S_, .f32⟩
  | .hbm, ⟨6, _⟩ => ⟨S4x32x512, .f32⟩
  | .hbm, ⟨7, _⟩ => ⟨S4x1x512, .f32⟩
  | .hbm, ⟨8, _⟩ => ⟨S4x1x512, .f32⟩
  | .hbm, ⟨9, _⟩ => ⟨S4x1x512, .f32⟩
  | .hbm, ⟨10, _⟩ => ⟨S4x2048x512, .bf16⟩
  | .hbm, ⟨11, _⟩ => ⟨S4x32x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x32x512, .f32⟩
  | .local _ .vmem, ⟨5, _⟩ => ⟨S1x32x512, .f32⟩
  | .local _ .vmem, ⟨6, _⟩ => ⟨S1x31x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x256x512, .bf16⟩
  | .local _ .vmem, ⟨11, _⟩ => ⟨S1x256x512, .bf16⟩
  | .local _ .vmem, ⟨12, _⟩ => ⟨S1x32x512, .f32⟩
  | .local _ .vmem, ⟨13, _⟩ => ⟨S1x32x512, .f32⟩
  | .local _ .vmem, ⟨14, _⟩ => ⟨S288x512, .f32⟩
  | _, _ => ⟨S4x2048x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v1772 : BitVec 1 := Scalar.cmpi .eq arg1 c7_i32
  let v1773 : BitVec 32 := Scalar.extui v1772
  let c0_i32_1134 : BitVec 32 := 0#32
  let v1774 : BitVec 1 := Scalar.cmpi .ne v1773 c0_i32_1134
  v1774

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvRefIdeal.lean ====
abbrev S4x2048x8704 : Shape := ⟨3, ![4, 2048, 8704]⟩
abbrev S4x31x512 : Shape := ⟨3, ![4, 31, 512]⟩
abbrev S4x512 : Shape := ⟨2, ![4, 512]⟩
abbrev S4x2048x512 : Shape := ⟨3, ![4, 2048, 512]⟩
abbrev S4x2048x1536 : Shape := ⟨3, ![4, 2048, 1536]⟩
abbrev S4x2048x1024 : Shape := ⟨3, ![4, 2048, 1024]⟩
abbrev S_ : Shape := ⟨0, ![]⟩
abbrev S4x2078x512 : Shape := ⟨3, ![4, 2078, 512]⟩
abbrev S1x31x512 : Shape := ⟨3, ![1, 31, 512]⟩
abbrev S31x512 : Shape := ⟨2, ![31, 512]⟩
abbrev S1x512 : Shape := ⟨2, ![1, 512]⟩
abbrev S512 : Shape := ⟨1, ![512]⟩
abbrev S1x1x512 : Shape := ⟨3, ![1, 1, 512]⟩
abbrev S4x2048 : Shape := ⟨2, ![4, 2048]⟩
abbrev S4x2048x1 : Shape := ⟨3, ![4, 2048, 1]⟩
abbrev S4x32x512 : Shape := ⟨3, ![4, 32, 512]⟩

abbrev nBuf : Space → Nat
  | .hbm => 296
  | .vmem => 0
  | .smem => 0
  | _ => 0

abbrev hbmTy0_0 (i : Nat) : BufTy := match i % 128 with
  | 0 => ⟨S4x2048x8704, .f32⟩
  | 1 => ⟨S4x31x512, .f32⟩
  | 2 => ⟨S4x512, .f32⟩
  | 3 => ⟨S4x512, .f32⟩
  | 4 => ⟨S4x512, .f32⟩
  | 5 => ⟨S4x2048x512, .f32⟩
  | 6 => ⟨S4x2048x512, .f32⟩
  | 7 => ⟨S4x2048x1536, .f32⟩
  | 8 => ⟨S4x2048x1536, .f32⟩
  | 9 => ⟨S4x2048x1536, .f32⟩
  | 10 => ⟨S4x2048x512, .f32⟩
  | 11 => ⟨S4x2048x512, .f32⟩
  | 12 => ⟨S4x2048x1024, .f32⟩
  | 13 => ⟨S4x2048x1024, .f32⟩
  | 14 => ⟨S4x2048x512, .f32⟩
  | 15 => ⟨S4x2048x512, .f32⟩
  | 16 => ⟨S_, .f32⟩
  | 17 => ⟨S4x2048x512, .f32⟩
  | 18 => ⟨S4x2048x512, .f32⟩
  | 19 => ⟨S_, .f32⟩
  | 20 => ⟨S4x2048x512, .f32⟩
  | 21 => ⟨S4x2048x512, .f32⟩
  | 22 => ⟨S4x2048x512, .f32⟩
  | 23 => ⟨S_, .i32⟩
  | 24 => ⟨S_, .f32⟩
  | 25 => ⟨S4x2078x512, .f32⟩
  | 26 => ⟨S1x31x512, .f32⟩
  | 27 => ⟨S31x512, .f32⟩
  | 28 => ⟨S1x512, .f32⟩
  | 29 => ⟨S512, .f32⟩
  | 30 => ⟨S4x2048x512, .f32⟩
  | 31 => ⟨S1x512, .f32⟩
  | 32 => ⟨S512, .f32⟩
  | 33 => ⟨S1x1x512, .f32⟩
  | 34 => ⟨S4x2048x512, .f32⟩
  | 35 => ⟨S4x2048x512, .f32⟩
  | 36 => ⟨S_, .f32⟩
  | 37 => ⟨S4x2048x512, .f32⟩
  | 38 => ⟨S4x2048x512, .f32⟩
  | 39 => ⟨S4x2048x512, .f32⟩
  | 40 => ⟨S1x512, .f32⟩
  | 41 => ⟨S512, .f32⟩
  | 42 => ⟨S1x1x512, .f32⟩
  | 43 => ⟨S4x2048x512, .f32⟩
  | 44 => ⟨S4x2048x512, .f32⟩
  | 45 => ⟨S4x2048x512, .f32⟩
  | 46 => ⟨S4x2048x512, .f32⟩
  | 47 => ⟨S1x512, .f32⟩
  | 48 => ⟨S512, .f32⟩
  | 49 => ⟨S1x1x512, .f32⟩
  | 50 => ⟨S4x2048x512, .f32⟩
  | 51 => ⟨S4x2048x512, .f32⟩
  | 52 => ⟨S4x2048x512, .f32⟩
  | 53 => ⟨S4x2048x512, .f32⟩
  | 54 => ⟨S1x512, .f32⟩
  | 55 => ⟨S512, .f32⟩
  | 56 => ⟨S1x1x512, .f32⟩
  | 57 => ⟨S4x2048x512, .f32⟩
  | 58 => ⟨S4x2048x512, .f32⟩
  | 59 => ⟨S4x2048x512, .f32⟩
  | 60 => ⟨S4x2048x512, .f32⟩
  | 61 => ⟨S1x512, .f32⟩
  | 62 => ⟨S512, .f32⟩
  | 63 => ⟨S1x1x512, .f32⟩
  | 64 => ⟨S4x2048x512, .f32⟩
  | 65 => ⟨S4x2048x512, .f32⟩
  | 66 => ⟨S4x2048x512, .f32⟩
  | 67 => ⟨S4x2048x512, .f32⟩
  | 68 => ⟨S1x512, .f32⟩
  | 69 => ⟨S512, .f32⟩
  | 70 => ⟨S1x1x512, .f32⟩
  | 71 => ⟨S4x2048x512, .f32⟩
  | 72 => ⟨S4x2048x512, .f32⟩
  | 73 => ⟨S4x2048x512, .f32⟩
  | 74 => ⟨S4x2048x512, .f32⟩
  | 75 => ⟨S1x512, .f32⟩
  | 76 => ⟨S512, .f32⟩
  | 77 => ⟨S1x1x512, .f32⟩
  | 78 => ⟨S4x2048x512, .f32⟩
  | 79 => ⟨S4x2048x512, .f32⟩
  | 80 => ⟨S4x2048x512, .f32⟩
  | 81 => ⟨S4x2048x512, .f32⟩
  | 82 => ⟨S1x512, .f32⟩
  | 83 => ⟨S512, .f32⟩
  | 84 => ⟨S1x1x512, .f32⟩
  | 85 => ⟨S4x2048x512, .f32⟩
  | 86 => ⟨S4x2048x512, .f32⟩
  | 87 => ⟨S4x2048x512, .f32⟩
  | 88 => ⟨S4x2048x512, .f32⟩
  | 89 => ⟨S1x512, .f32⟩
  | 90 => ⟨S512, .f32⟩
  | 91 => ⟨S1x1x512, .f32⟩
  | 92 => ⟨S4x2048x512, .f32⟩
  | 93 => ⟨S4x2048x512, .f32⟩
  | 94 => ⟨S4x2048x512, .f32⟩
  | 95 => ⟨S4x2048x512, .f32⟩
  | 96 => ⟨S1x512, .f32⟩
  | 97 => ⟨S512, .f32⟩
  | 98 => ⟨S1x1x512, .f32⟩
  | 99 => ⟨S4x2048x512, .f32⟩
  | 100 => ⟨S4x2048x512, .f32⟩
  | 101 => ⟨S4x2048x512, .f32⟩
  | 102 => ⟨S4x2048x512, .f32⟩
  | 103 => ⟨S1x512, .f32⟩
  | 104 => ⟨S512, .f32⟩
  | 105 => ⟨S1x1x512, .f32⟩
  | 106 => ⟨S4x2048x512, .f32⟩
  | 107 => ⟨S4x2048x512, .f32⟩
  | 108 => ⟨S4x2048x512, .f32⟩
  | 109 => ⟨S4x2048x512, .f32⟩
  | 110 => ⟨S1x512, .f32⟩
  | 111 => ⟨S512, .f32⟩
  | 112 => ⟨S1x1x512, .f32⟩
  | 113 => ⟨S4x2048x512, .f32⟩
  | 114 => ⟨S4x2048x512, .f32⟩
  | 115 => ⟨S4x2048x512, .f32⟩
  | 116 => ⟨S4x2048x512, .f32⟩
  | 117 => ⟨S1x512, .f32⟩
  | 118 => ⟨S512, .f32⟩
  | 119 => ⟨S1x1x512, .f32⟩
  | 120 => ⟨S4x2048x512, .f32⟩
  | 121 => ⟨S4x2048x512, .f32⟩
  | 122 => ⟨S4x2048x512, .f32⟩
  | 123 => ⟨S4x2048x512, .f32⟩
  | 124 => ⟨S1x512, .f32⟩
  | 125 => ⟨S512, .f32⟩
  | 126 => ⟨S1x1x512, .f32⟩
  | 127 => ⟨S4x2048x512, .f32⟩
  | _ => ⟨S4x2048x8704, .f32⟩

abbrev hbmTy0_1 (i : Nat) : BufTy := match i % 128 with
  | 0 => ⟨S4x2048x512, .f32⟩
  | 1 => ⟨S4x2048x512, .f32⟩
  | 2 => ⟨S4x2048x512, .f32⟩
  | 3 => ⟨S1x512, .f32⟩
  | 4 => ⟨S512, .f32⟩
  | 5 => ⟨S1x1x512, .f32⟩
  | 6 => ⟨S4x2048x512, .f32⟩
  | 7 => ⟨S4x2048x512, .f32⟩
  | 8 => ⟨S4x2048x512, .f32⟩
  | 9 => ⟨S4x2048x512, .f32⟩
  | 10 => ⟨S1x512, .f32⟩
  | 11 => ⟨S512, .f32⟩
  | 12 => ⟨S1x1x512, .f32⟩
  | 13 => ⟨S4x2048x512, .f32⟩
  | 14 => ⟨S4x2048x512, .f32⟩
  | 15 => ⟨S4x2048x512, .f32⟩
  | 16 => ⟨S4x2048x512, .f32⟩
  | 17 => ⟨S1x512, .f32⟩
  | 18 => ⟨S512, .f32⟩
  | 19 => ⟨S1x1x512, .f32⟩
  | 20 => ⟨S4x2048x512, .f32⟩
  | 21 => ⟨S4x2048x512, .f32⟩
  | 22 => ⟨S4x2048x512, .f32⟩
  | 23 => ⟨S4x2048x512, .f32⟩
  | 24 => ⟨S1x512, .f32⟩
  | 25 => ⟨S512, .f32⟩
  | 26 => ⟨S1x1x512, .f32⟩
  | 27 => ⟨S4x2048x512, .f32⟩
  | 28 => ⟨S4x2048x512, .f32⟩
  | 29 => ⟨S4x2048x512, .f32⟩
  | 30 => ⟨S4x2048x512, .f32⟩
  | 31 => ⟨S1x512, .f32⟩
  | 32 => ⟨S512, .f32⟩
  | 33 => ⟨S1x1x512, .f32⟩
  | 34 => ⟨S4x2048x512, .f32⟩
  | 35 => ⟨S4x2048x512, .f32⟩
  | 36 => ⟨S4x2048x512, .f32⟩
  | 37 => ⟨S4x2048x512, .f32⟩
  | 38 => ⟨S1x512, .f32⟩
  | 39 => ⟨S512, .f32⟩
  | 40 => ⟨S1x1x512, .f32⟩
  | 41 => ⟨S4x2048x512, .f32⟩
  | 42 => ⟨S4x2048x512, .f32⟩
  | 43 => ⟨S4x2048x512, .f32⟩
  | 44 => ⟨S4x2048x512, .f32⟩
  | 45 => ⟨S1x512, .f32⟩
  | 46 => ⟨S512, .f32⟩
  | 47 => ⟨S1x1x512, .f32⟩
  | 48 => ⟨S4x2048x512, .f32⟩
  | 49 => ⟨S4x2048x512, .f32⟩
  | 50 => ⟨S4x2048x512, .f32⟩
  | 51 => ⟨S4x2048x512, .f32⟩
  | 52 => ⟨S1x512, .f32⟩
  | 53 => ⟨S512, .f32⟩
  | 54 => ⟨S1x1x512, .f32⟩
  | 55 => ⟨S4x2048x512, .f32⟩
  | 56 => ⟨S4x2048x512, .f32⟩
  | 57 => ⟨S4x2048x512, .f32⟩
  | 58 => ⟨S4x2048x512, .f32⟩
  | 59 => ⟨S1x512, .f32⟩
  | 60 => ⟨S512, .f32⟩
  | 61 => ⟨S1x1x512, .f32⟩
  | 62 => ⟨S4x2048x512, .f32⟩
  | 63 => ⟨S4x2048x512, .f32⟩
  | 64 => ⟨S4x2048x512, .f32⟩
  | 65 => ⟨S4x2048x512, .f32⟩
  | 66 => ⟨S1x512, .f32⟩
  | 67 => ⟨S512, .f32⟩
  | 68 => ⟨S1x1x512, .f32⟩
  | 69 => ⟨S4x2048x512, .f32⟩
  | 70 => ⟨S4x2048x512, .f32⟩
  | 71 => ⟨S4x2048x512, .f32⟩
  | 72 => ⟨S4x2048x512, .f32⟩
  | 73 => ⟨S1x512, .f32⟩
  | 74 => ⟨S512, .f32⟩
  | 75 => ⟨S1x1x512, .f32⟩
  | 76 => ⟨S4x2048x512, .f32⟩
  | 77 => ⟨S4x2048x512, .f32⟩
  | 78 => ⟨S4x2048x512, .f32⟩
  | 79 => ⟨S4x2048x512, .f32⟩
  | 80 => ⟨S1x512, .f32⟩
  | 81 => ⟨S512, .f32⟩
  | 82 => ⟨S1x1x512, .f32⟩
  | 83 => ⟨S4x2048x512, .f32⟩
  | 84 => ⟨S4x2048x512, .f32⟩
  | 85 => ⟨S4x2048x512, .f32⟩
  | 86 => ⟨S4x2048x512, .f32⟩
  | 87 => ⟨S1x512, .f32⟩
  | 88 => ⟨S512, .f32⟩
  | 89 => ⟨S1x1x512, .f32⟩
  | 90 => ⟨S4x2048x512, .f32⟩
  | 91 => ⟨S4x2048x512, .f32⟩
  | 92 => ⟨S4x2048x512, .f32⟩
  | 93 => ⟨S4x2048x512, .f32⟩
  | 94 => ⟨S1x512, .f32⟩
  | 95 => ⟨S512, .f32⟩
  | 96 => ⟨S1x1x512, .f32⟩
  | 97 => ⟨S4x2048x512, .f32⟩
  | 98 => ⟨S4x2048x512, .f32⟩
  | 99 => ⟨S4x2048x512, .f32⟩
  | 100 => ⟨S4x2048x512, .f32⟩
  | 101 => ⟨S1x512, .f32⟩
  | 102 => ⟨S512, .f32⟩
  | 103 => ⟨S1x1x512, .f32⟩
  | 104 => ⟨S4x2048x512, .f32⟩
  | 105 => ⟨S4x2048x512, .f32⟩
  | 106 => ⟨S4x2048x512, .f32⟩
  | 107 => ⟨S4x2048x512, .f32⟩
  | 108 => ⟨S1x512, .f32⟩
  | 109 => ⟨S512, .f32⟩
  | 110 => ⟨S1x1x512, .f32⟩
  | 111 => ⟨S4x2048x512, .f32⟩
  | 112 => ⟨S4x2048x512, .f32⟩
  | 113 => ⟨S4x2048x512, .f32⟩
  | 114 => ⟨S4x2048x512, .f32⟩
  | 115 => ⟨S1x512, .f32⟩
  | 116 => ⟨S512, .f32⟩
  | 117 => ⟨S1x1x512, .f32⟩
  | 118 => ⟨S4x2048x512, .f32⟩
  | 119 => ⟨S4x2048x512, .f32⟩
  | 120 => ⟨S4x2048x512, .f32⟩
  | 121 => ⟨S1x1x512, .f32⟩
  | 122 => ⟨S4x2048x512, .f32⟩
  | 123 => ⟨S4x2048x512, .f32⟩
  | 124 => ⟨S1x512, .f32⟩
  | 125 => ⟨S512, .f32⟩
  | 126 => ⟨S1x512, .f32⟩
  | 127 => ⟨S512, .f32⟩
  | _ => ⟨S4x2048x8704, .f32⟩

abbrev hbmTy0_2 (i : Nat) : BufTy := match i % 128 with
  | 0 => ⟨S_, .f32⟩
  | 1 => ⟨S4x2048, .f32⟩
  | 2 => ⟨S4x2048x1, .f32⟩
  | 3 => ⟨S_, .f32⟩
  | 4 => ⟨S4x2048x1, .f32⟩
  | 5 => ⟨S4x2048x1, .f32⟩
  | 6 => ⟨S4x2048x512, .f32⟩
  | 7 => ⟨S4x2048x512, .f32⟩
  | 8 => ⟨S4x2048x512, .f32⟩
  | 9 => ⟨S_, .f32⟩
  | 10 => ⟨S4x2048, .f32⟩
  | 11 => ⟨S4x2048x1, .f32⟩
  | 12 => ⟨S_, .f32⟩
  | 13 => ⟨S4x2048x1, .f32⟩
  | 14 => ⟨S4x2048x1, .f32⟩
  | 15 => ⟨S4x2048x512, .f32⟩
  | 16 => ⟨S4x2048x512, .f32⟩
  | 17 => ⟨S_, .f32⟩
  | 18 => ⟨S4x2048x1, .f32⟩
  | 19 => ⟨S4x2048x1, .f32⟩
  | 20 => ⟨S4x2048x1, .f32⟩
  | 21 => ⟨S4x2048x512, .f32⟩
  | 22 => ⟨S4x2048x512, .f32⟩
  | 23 => ⟨S1x1x512, .f32⟩
  | 24 => ⟨S4x2048x512, .f32⟩
  | 25 => ⟨S4x2048x512, .f32⟩
  | 26 => ⟨S1x1x512, .f32⟩
  | 27 => ⟨S4x2048x512, .f32⟩
  | 28 => ⟨S4x2048x512, .f32⟩
  | 29 => ⟨S4x2048x512, .f32⟩
  | 30 => ⟨S4x2048x512, .f32⟩
  | 31 => ⟨S_, .f32⟩
  | 32 => ⟨S4x2048x512, .f32⟩
  | 33 => ⟨S4x2048x512, .f32⟩
  | 34 => ⟨S_, .f32⟩
  | 35 => ⟨S4x2048x512, .f32⟩
  | 36 => ⟨S4x2048x512, .f32⟩
  | 37 => ⟨S4x2048x512, .f32⟩
  | 38 => ⟨S4x2048x512, .bf16⟩
  | 39 => ⟨S4x32x512, .f32⟩
  | _ => ⟨S4x2048x8704, .f32⟩

abbrev hbmTy (i : Nat) : BufTy := match i / 128 with
  | 0 => hbmTy0_0 i
  | 1 => hbmTy0_1 i
  | 2 => hbmTy0_2 i
  | _ => ⟨S4x2048x8704, .f32⟩

abbrev bufTy : (tb : Table) → Fin (tcTables nBuf tb) → BufTy
  | .hbm, ⟨i, _⟩ => hbmTy i
  | _, _ => ⟨S4x2048x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_cst_2 : Ref sig .tc := ⟨.hbm, 256, rfl⟩
abbrev main_v246 : Ref sig .tc := ⟨.hbm, 257, rfl⟩
abbrev main_v247 : Ref sig .tc := ⟨.hbm, 258, rfl⟩
abbrev main_cst_3 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_cst_4 : Ref sig .tc := ⟨.hbm, 265, rfl⟩
abbrev main_v253 : Ref sig .tc := ⟨.hbm, 266, rfl⟩
abbrev main_v254 : Ref sig .tc := ⟨.hbm, 267, rfl⟩
abbrev main_cst_5 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_cst_6 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_v263 : Ref sig .tc := ⟨.hbm, 278, rfl⟩
abbrev main_v264 : Ref sig .tc := ⟨.hbm, 279, rfl⟩
abbrev main_v265 : Ref sig .tc := ⟨.hbm, 280, rfl⟩
abbrev main_v266 : Ref sig .tc := ⟨.hbm, 281, rfl⟩
abbrev main_v267 : Ref sig .tc := ⟨.hbm, 282, rfl⟩
abbrev main_v268 : Ref sig .tc := ⟨.hbm, 283, rfl⟩
abbrev main_v269 : Ref sig .tc := ⟨.hbm, 284, rfl⟩
abbrev main_call1_v0 : Ref sig .tc := ⟨.hbm, 285, rfl⟩
abbrev main_call1_v1 : Ref sig .tc := ⟨.hbm, 286, rfl⟩
abbrev main_call1_cst : Ref sig .tc := ⟨.hbm, 287, rfl⟩
abbrev main_call1_v2 : Ref sig .tc := ⟨.hbm, 288, rfl⟩
abbrev main_call1_v3 : Ref sig .tc := ⟨.hbm, 289, rfl⟩
abbrev main_call1_cst_0 : Ref sig .tc := ⟨.hbm, 290, rfl⟩
abbrev main_call1_v4 : Ref sig .tc := ⟨.hbm, 291, rfl⟩
abbrev main_call1_v5 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩

abbrev nD : Nat := 1
abbrev τ : Topo := Topo.v7x

variable {F : FTy → Type} [FloatOps F]
-- ==== Proof.RetentionRun.lean ====
/- One grid point of the retention kernel, run with the buffers it leaves written out.

   The body copies the start state into its scratch, walks sixteen chunks of 128 rows, and stores the last state.
   What the scratch holds before chunk `k` (`stateAt`) and which rows of the output the chunks before `k` filled
   (`rowsDone`) are functions of the input blocks alone, so the body's run is stated over them. -/
module

public import proofs.«01_k».proof.Proof.Gen.RetIdeal.Frame.Runs
public import Idealize.ShloMosaic.Lib.VecWindow

@[expose] public section

set_option maxRecDepth 16384

noncomputable section

namespace Cert.RetIdeal.Scan

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What one chunk reads and leaves -/

/-- Chunk `k`'s 128 rows of a rotation table. -/
def tableRows (x : Vec F S2048x128 .f32) (k : Fin k0_t1_loop.trips) : Vec F S128x128 .f32 :=
  View.ld (Val := Elt F) x (Rect.unit (s := S2048x128) (k0_off1 k) S128x128.size (k0_off1_inb k))

/-- Chunk `k`'s 128 rows of the queries or the keys. -/
def keyRows (x : Vec F S1x2048x128 .f32) (k : Fin k0_t1_loop.trips) : Vec F S1x128x128 .f32 :=
  View.ld (Val := Elt F) x (Rect.unit (s := S1x2048x128) (k0_off2 k) S1x128x128.size (k0_off2_inb k))

/-- Chunk `k`'s 128 rows of the values or the gate. -/
def valueRows (x : Vec F S1x2048x256 .f32) (k : Fin k0_t1_loop.trips) : Vec F S1x128x256 .f32 :=
  View.ld (Val := Elt F) x (Rect.unit (s := S1x2048x256) (k0_off3 k) S1x128x256.size (k0_off3_inb k))

/-- Reading a whole block back gives the block. -/
theorem ld_whole {s : Shape} {e : EltTy} (x : s.Idx → Elt F e) {off : Fin s.rank → ℕ} (inb : ∀ a, off a + s.size a ≤ s.size a) :
    View.ld (Val := Elt F) x (Rect.unit off s.size inb) = x := by
  funext y
  exact congrArg x (funext fun a => Fin.ext (by
    show off a + 1 * (y a).val = (y a).val
    have := inb a; omega))

section
variable (x0 : Vec F S1x2048x128 .f32) (x1 : Vec F S1x2048x128 .f32) (x2 : Vec F S1x2048x256 .f32) (x3 : Vec F S1x2048x256 .f32) (x4 : Vec F S2048x128 .f32) (x5 : Vec F S2048x128 .f32) (x6 : Vec F S1x128x128 .f32) (x7 : Vec F S1x128x256 .f32) (x8 : Vec F S1x128x128 .f32) (x9 : Vec F S1x1x256 .f32) (x10 : Vec F S1x1x128x256 .f32)

/-- The state after chunk `k`, from the state before it. -/
def nextState (k : Fin k0_t1_loop.trips) (s : Vec F S128x256 .f32) : Vec F S128x256 .f32 :=
  k0_pay11 (k0_pay6 (tableRows x4 k) (tableRows x5 k) (keyRows x1 k)) (k0_pay9 (valueRows x2 k)) x8 s x9

/-- What chunk `k` stores in its rows of the output, from the state before it. -/
def chunkOut (k : Fin k0_t1_loop.trips) (s : Vec F S128x256 .f32) : Vec F S1x128x256 .bf16 :=
  k0_pay2 (k0_pay7 (valueRows x3 k))
    (k0_pay12 (k0_pay8 (tableRows x4 k) (tableRows x5 k) (keyRows x0 k))
      (k0_pay10 (tableRows x4 k) (tableRows x5 k) (keyRows x0 k) (keyRows x1 k) (valueRows x2 k) x6) s x7)
    (k0_pay13 (k0_pay7 (valueRows x3 k)))

/-- The state before chunk `k`. -/
def stateAt : ℕ → Vec F S128x256 .f32
  | 0 => k0_pay1 x10
  | k + 1 => if h : k < k0_t1_loop.trips then nextState x1 x2 x4 x5 x8 x9 ⟨k, h⟩ (stateAt k) else stateAt k

/-- The stores into the output made by the chunks before `k`, last first. -/
def rowsDone : ℕ → List (View.Piece (Elt F) S1x2048x256 .bf16)
  | 0 => []
  | k + 1 => if h : k < k0_t1_loop.trips then
      ⟨Rect.unit (s := S1x2048x256) (k0_off3 ⟨k, h⟩) S1x128x256.size (k0_off3_inb ⟨k, h⟩),
        chunkOut x0 x1 x2 x3 x4 x5 x6 x7 ⟨k, h⟩ (stateAt x1 x2 x4 x5 x8 x9 x10 k)⟩ :: rowsDone k
      else rowsDone k

theorem stateAt_succ (k : ℕ) (h : k < k0_t1_loop.trips) :
    stateAt x1 x2 x4 x5 x8 x9 x10 (k + 1) = nextState x1 x2 x4 x5 x8 x9 ⟨k, h⟩ (stateAt x1 x2 x4 x5 x8 x9 x10 k) := dif_pos h

theorem rowsDone_succ (k : ℕ) (h : k < k0_t1_loop.trips) :
    rowsDone x0 x1 x2 x3 x4 x5 x6 x7 x8 x9 x10 (k + 1)
      = ⟨Rect.unit (s := S1x2048x256) (k0_off3 ⟨k, h⟩) S1x128x256.size (k0_off3_inb ⟨k, h⟩),
        chunkOut x0 x1 x2 x3 x4 x5 x6 x7 ⟨k, h⟩ (stateAt x1 x2 x4 x5 x8 x9 x10 k)⟩ :: rowsDone x0 x1 x2 x3 x4 x5 x6 x7 x8 x9 x10 k := dif_pos h

end

/-! ## One trip of the loop -/

section
variable (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x128x256 .f32) (harg9 : arg9.IsWhole) (arg10 : Memref sig .tc .vmem S1x128x128 .f32) (harg10 : arg10.IsWhole) (arg11 : Memref sig .tc .vmem S1x1x256 .f32) (harg11 : arg11.IsWhole) (arg12 : Memref sig .tc .vmem S1x1x128x256 .f32) (harg12 : arg12.IsWhole) (arg13 : Memref sig .tc .vmem S1x2048x256 .bf16) (harg13 : arg13.IsWhole) (arg14 : Memref sig .tc .vmem S1x1x128x256 .f32) (harg14 : arg14.IsWhole) (arg15 : Memref sig .tc .vmem S128x256 .f32) (harg15 : arg15.IsWhole)
  (x0 : Vec F S1x2048x128 .f32) (x1 : Vec F S1x2048x128 .f32) (x2 : Vec F S1x2048x256 .f32) (x3 : Vec F S1x2048x256 .f32) (x4 : Vec F S2048x128 .f32) (x5 : Vec F S2048x128 .f32) (x6 : Vec F S1x128x128 .f32) (x7 : Vec F S1x128x256 .f32) (x8 : Vec F S1x128x128 .f32) (x9 : Vec F S1x1x256 .f32) (x10 : Vec F S1x1x128x256 .f32)

/-- One trip's store into the output. -/
theorem trip_out (k : Fin k0_t1_loop.trips) (f13 : BufTy.Contents (Elt F) arg13.view.ty) (f15 : BufTy.Contents (Elt F) arg15.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg3.unread x1) (harg4.unread x2) (harg5.unread x3) (harg6.unread x4) (harg7.unread x5) (harg8.unread x6) (harg9.unread x7) (harg10.unread x8) (harg11.unread x9) k).1 f13 f15
      = [⟨Rect.unit (s := S1x2048x256) (k0_off3 k) S1x128x256.size (k0_off3_inb k),
          chunkOut x0 x1 x2 x3 x4 x5 x6 x7 k (arg15.view.read (Elt F) f15)⟩] := by
  unfold trip_k0_t1
  dsimp only [trip_k0_t1.sl.r, trip_k0_t1.sl.r_1, trip_k0_t1.sl.r_2, trip_k0_t1.sl.r_3, trip_k0_t1.sl.r_4, trip_k0_t1.sl.r_5, trip_k0_t1.sl.r_6]
  simp only [View.readAt_eq_ld, harg2.read_unread, harg3.read_unread, harg4.read_unread, harg5.read_unread, harg6.read_unread, harg7.read_unread, harg8.read_unread, harg9.read_unread, harg10.read_unread, harg11.read_unread]
  rw [ld_whole, ld_whole, ld_whole]
  rfl

/-- One trip's store into the scratch. -/
theorem trip_state (k : Fin k0_t1_loop.trips) (f13 : BufTy.Contents (Elt F) arg13.view.ty) (f15 : BufTy.Contents (Elt F) arg15.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg3.unread x1) (harg4.unread x2) (harg5.unread x3) (harg6.unread x4) (harg7.unread x5) (harg8.unread x6) (harg9.unread x7) (harg10.unread x8) (harg11.unread x9) k).2.1 f13 f15
      = [⟨Rect.unit (s := S128x256) ![0, 0] S128x256.size inb_S128x256_S128x256_0_0,
          nextState x1 x2 x4 x5 x8 x9 k (arg15.view.read (Elt F) f15)⟩] := by
  unfold trip_k0_t1
  dsimp only [trip_k0_t1.sl.r, trip_k0_t1.sl.r_1, trip_k0_t1.sl.r_2, trip_k0_t1.sl.r_3, trip_k0_t1.sl.r_4, trip_k0_t1.sl.r_5, trip_k0_t1.sl.r_6]
  simp only [View.readAt_eq_ld, harg2.read_unread, harg3.read_unread, harg4.read_unread, harg5.read_unread, harg6.read_unread, harg7.read_unread, harg8.read_unread, harg9.read_unread, harg10.read_unread, harg11.read_unread]
  rw [ld_whole, ld_whole, ld_whole]
  rfl

/-- After `k` trips: the stores made into the output, and what the scratch reads as. -/
theorem trips_done (G13 : BufTy.Contents (Elt F) arg13.view.ty) (G15 : BufTy.Contents (Elt F) arg15.view.ty)
    (h15 : arg15.view.read (Elt F) G15 = k0_pay1 x10) (k : ℕ) (hk : k ≤ k0_t1_loop.trips) :
    (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg3.unread x1) (harg4.unread x2) (harg5.unread x3) (harg6.unread x4) (harg7.unread x5) (harg8.unread x6) (harg9.unread x7) (harg10.unread x8) (harg11.unread x9) G13 G15 k).1 = rowsDone x0 x1 x2 x3 x4 x5 x6 x7 x8 x9 x10 k
      ∧ arg15.view.read (Elt F) (arg15.view.writes (Elt F) G15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg3.unread x1) (harg4.unread x2) (harg5.unread x3) (harg6.unread x4) (harg7.unread x5) (harg8.unread x6) (harg9.unread x7) (harg10.unread x8) (harg11.unread x9) G13 G15 k).2)
        = stateAt x1 x2 x4 x5 x8 x9 x10 k := by
  induction k with
  | zero => exact ⟨rfl, h15⟩
  | succ k ih =>
    have hlt : k < k0_t1_loop.trips := hk
    obtain ⟨h1, h2⟩ := ih hlt.le
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg3.unread x1) (harg4.unread x2) (harg5.unread x3) (harg6.unread x4) (harg7.unread x5) (harg8.unread x6) (harg9.unread x7) (harg10.unread x8) (harg11.unread x9) G13 G15 ⟨k, hlt⟩
    refine ⟨(congrArg Prod.fst hs).trans ?_, (congrArg (fun p => arg15.view.read (Elt F) (arg15.view.writes (Elt F) G15 p)) (congrArg Prod.snd hs)).trans ?_⟩
    all_goals (unfold tripL_k0_t1; dsimp only; first | rw [trip_out, h1, h2] | rw [trip_state, h2])
    · rw [rowsDone_succ _ _ _ _ _ _ _ _ _ _ _ k hlt]; rfl
    · rw [stateAt_succ _ _ _ _ _ _ _ k hlt]
      exact View.read_writes_full _ _ _ _ _

/-- The last state, stored in the state's own output. -/
abbrev lastState (x1 : Vec F S1x2048x128 .f32) (x2 : Vec F S1x2048x256 .f32) (x4 : Vec F S2048x128 .f32) (x5 : Vec F S2048x128 .f32) (x8 : Vec F S1x128x128 .f32) (x9 : Vec F S1x1x256 .f32) (x10 : Vec F S1x1x128x256 .f32) :
    List (View.Piece (Elt F) S1x1x128x256 .f32) :=
  [⟨Rect.unit (s := S1x1x128x256) ![0, 0, 0, 0] S1x1x128x256.size inb_S1x1x128x256_S1x1x128x256_0_0_0_0,
    k0_pay3 (stateAt x1 x2 x4 x5 x8 x9 x10 k0_t1_loop.trips)⟩]

set_option maxHeartbeats 2000000 in
/-- The body at one grid point: from the input blocks it leaves every chunk's rows in the output and the last state
    in the state's output, whatever the output buffers and the scratch held. -/
theorem kernelRun (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ (∃ f, arg13.view.loc (c : Thread nD τ) ↦[arg13.view.set]{fullShare} arg13.view.writes (Elt F) f (rowsDone x0 x1 x2 x3 x4 x5 x6 x7 x8 x9 x10 k0_t1_loop.trips))
            ∗ (∃ f, arg14.view.loc (c : Thread nD τ) ↦[arg14.view.set]{fullShare} arg14.view.writes (Elt F) f (lastState x1 x2 x4 x5 x8 x9 x10))
            ∗ (∃ d, owns (c : Thread nD τ) arg15 fullShare d)) -∗ K ⟨⟩))
      ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_retention_eq_skeleton]; unfold cc0_retention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec
  sl_step
  have hstart : arg15.view.read (Elt F) (arg15.view.writes (Elt F) arg15.view.junk (kernelRun.sl.HS0_1 c arg12 harg12 x10)) = k0_pay1 x10 := by
    unfold kernelRun.sl.HS0_1
    rw [View.read_writes_full, View.readAt_full, harg12.read_unread]
  have hdone := trips_done Variants.none c none i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 f11
    (arg15.view.writes (Elt F) arg15.view.junk (kernelRun.sl.HS0_1 c arg12 harg12 x10)) hstart k0_t1_loop.trips le_rfl
  have hlast : kernelRun.sl.v6 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 f11 = stateAt x1 x2 x4 x5 x8 x9 x10 k0_t1_loop.trips := by
    unfold kernelRun.sl.v6
    rw [← hdone.2, ← View.writes_append]
    exact View.readAt_full _ _ _
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists f11
    rw [← hdone.1]
    iexact H11
  isplitl [H12]
  · iexists f12
    unfold lastState
    rw [← hlast]
    iexact H12
  iexists _, _; isplitr; swap; · iexact HS0
  ipureintro; rfl

end

end Cert.RetIdeal.Scan

end
-- ==== Proof.RetentionFrame.lean ====
/- The frame of the retention program: every execution ends, the argument array is unchanged, and the two result
   arrays hold, block by block, what one grid point's run leaves (`RetentionRun`). -/
module

public import proofs.«01_k».proof.Proof.RetentionRun
public import Idealize.ShloMosaic.Lib.Claim

@[expose] public section

set_option maxRecDepth 16384

noncomputable section

namespace Cert.RetIdeal.Scan

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after a grid point -/

section
variable (x0 x1 : Vec F S1x2048x128 .f32) (x2 x3 : Vec F S1x2048x256 .f32) (x4 x5 : Vec F S2048x128 .f32)
  (x6 : Vec F S1x128x128 .f32) (x7 : Vec F S1x128x256 .f32) (x8 : Vec F S1x128x128 .f32) (x9 : Vec F S1x1x256 .f32)
  (x10 : Vec F S1x1x128x256 .f32)

/-- The sixteen chunks fill the output block. -/
theorem rows_cover (y : S1x2048x256.Idx) :
    ∃ pc ∈ rowsDone x0 x1 x2 x3 x4 x5 x6 x7 x8 x9 x10 k0_t1_loop.trips, y ∈ pc.1.set :=
  View.cover_of_tiledL (rowsDone x0 x1 x2 x3 x4 x5 x6 x7 x8 x9 x10 k0_t1_loop.trips) S1x128x256.size (by sl_kernel_rfl) y

/-- The one store fills the state's output block. -/
theorem last_cover (y : S1x1x128x256.Idx) :
    ∃ pc ∈ lastState x1 x2 x4 x5 x8 x9 x10, y ∈ pc.1.set :=
  View.cover_of_tiledL (lastState x1 x2 x4 x5 x8 x9 x10) S1x1x128x256.size (by sl_kernel_rfl) y

/-- The output block: each row from the chunk that stored it. -/
def outBlock : Vec F S1x2048x256 .bf16 := View.canon (Val := Elt F) (rowsDone x0 x1 x2 x3 x4 x5 x6 x7 x8 x9 x10 k0_t1_loop.trips)

/-- The state's output block. -/
def stateBlock : Vec F S1x1x128x256 .f32 := View.canon (Val := Elt F) (lastState x1 x2 x4 x5 x8 x9 x10)
end

/-- The pipeline's data on core `c`: the arrays as the region finds them, each input's buffer at its block, each
    output's at what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => stateBlock (iblk m c 1 t) (iblk m c 2 t) (iblk m c 4 t) (iblk m c 5 t) (iblk m c 8 t) (iblk m c 9 t) (iblk m c 10 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = stateBlock (iblk m c 1 t) (iblk m c 2 t) (iblk m c 4 t) (iblk m c 5 t) (iblk m c 8 t) (iblk m c 9 t) (iblk m c 10 t) := by dsimp only [dats]

/-! An input's buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body at a grid point -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1200000 in
/-- The body at any point, from the run over its blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  unfold outBlock stateBlock
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (kernelRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS0]; · iexact HS0
  iintro ⟨H0, H1, H2, H3, H4, H5, H6, H7, H8, H9, H10, ⟨%e11, H11⟩, ⟨%e12, H12⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_eq_canon _ _ _ (rows_cover _ _ _ _ _ _ _ _ _ _ _)
  unfold owns; iexists _; isplitr
  swap; · iexact H12
  ipureintro; exact View.read_writes_eq_canon _ _ _ (last_cover _ _ _ _ _ _ _)

/-- The body the pipeline calls at point `t` is the kernel at that point's buffers. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every execution ends with the pipeline's arrays at what its data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument array ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.RetIdeal.Scan

end
-- ==== Proof.RetentionBits.lean ====
/-
The frame of the retention program over float words, from the one over any float values: the two programs have the
same text, so their kernels, their tables of kernels and their host code are the same.
-/
module

public import proofs.«01_k».proof.Proof.Gen.Ret
public import proofs.«01_k».proof.Proof.RetentionFrame
public import proofs.«01_k».proof.Defs

@[expose] public section

set_option maxRecDepth 16384
set_option maxHeartbeats 2000000

noncomputable section

namespace Cert.Proof

open Idealize.ShloMosaic Idealize.ShloMosaic.TcCoe Idealize.SL.Sem

/-- The two programs' kernels are one. -/
theorem same_kernel : @Cert.Ret.cc0_retention Bits _ _ = @Cert.RetIdeal.cc0_retention Bits _ _ := rfl

/-- So are their tables of kernels, … -/
theorem same_table : @Cert.Ret.defs₀ Bits _ _ = @Cert.RetIdeal.defs₀ Bits _ _ := by
  unfold Cert.Ret.defs₀ Cert.RetIdeal.defs₀
  refine congrArg Defs.onTc ?_
  funext l a
  match l, a with
  | 0, (t, s) => rfl

/-- … with the pipeline's own label, … -/
theorem same_defs : @Cert.Ret.defs Bits _ _ = @Cert.RetIdeal.defs Bits _ _ := by
  unfold Cert.Ret.defs Cert.RetIdeal.defs
  exact congrArg (Pipeline.defs _) same_table

/-- … the first part of the host code, … -/
theorem same_part0 : @Cert.Ret.main_part0 Bits _ _ = @Cert.RetIdeal.main_part0 Bits _ _ := by
  unfold Cert.Ret.main_part0 Cert.RetIdeal.main_part0; rfl

/-- … the second, … -/
theorem same_part1 : @Cert.Ret.main_part1 Bits _ _ = @Cert.RetIdeal.main_part1 Bits _ _ := by
  unfold Cert.Ret.main_part1 Cert.RetIdeal.main_part1; rfl

/-- … and the whole of it. -/
theorem same_main : @Cert.Ret.main Bits _ _ = @Cert.RetIdeal.main Bits _ _ := by
  unfold Cert.Ret.main Cert.RetIdeal.main
  rw [same_part0, same_part1]; rfl

/-- The frame of the retention program over float words. -/
theorem frame_retention : Cert.quiescent_Ret (hRet := Cert.Ret.Gen.facts) := by
  intro m g _
  rw [same_defs, same_main]
  exact Cert.RetIdeal.Scan.frame (F := Bits) m g

end Cert.Proof

end
-- ==== Proof.RetentionRefRun.lean ====
/-
The run of the retention's reference: a loop over the sixteen chunks of the sequence. Its memory before trip `j`
carries the `j`-th of a sequence of states, so the results are read off the sixteenth.
-/
module

public import proofs.«01_k».proof.Proof.Gen.RetRefIdeal.Run
public import proofs.«01_k».proof.Proof.Gen.RetRefIdeal.Step

@[expose] public section

noncomputable section

namespace Cert.RetRefIdeal.Chunks

open Idealize.ShloMosaic Idealize.ShloMosaic.TcCoe Idealize.SL.Sem Idealize.ShloMosaic.StableHlo
open Cert.RetRefIdeal Cert.RetRefIdeal.Gen Cert.RetRefIdeal.Value
open Cert.RetRefIdeal.Step (State step init)

variable {F : FTy → Type} [FloatOps F]

/-- The buffers that the loop hands from trip to trip hold the state `s`, the trip's number `j` and the decay rates. -/
structure Carries (V : Valuation τ sig (Elt F)) (s : State F) (j : ℕ) : Prop where
  state : V (Proc.devRef .tc main_v97_5) = s.main_v97_5
  outs : V (Proc.devRef .tc main_v97_6) = s.main_v97_6
  queries : V (Proc.devRef .tc main_v97_0) = s.main_v97_0
  keys : V (Proc.devRef .tc main_v97_1) = s.main_v97_1
  values : V (Proc.devRef .tc main_v97_2) = s.main_v97_2
  number : V (Proc.devRef .tc main_v97_4) = constantI S_ 32 (BitVec.ofNat 32 j)
  rates : V (Proc.devRef .tc main_v97_3) = Step.K_main_v7 (F := F)

variable {V : Valuation τ sig (Elt F)} {s : State F} {j : ℕ}

/-- A trip's query chunk. -/
theorem query_chunk (h : Carries V s j) : res_main_while0b_v123 V = Step.b5 j s := by
  unfold res_main_while0b_v123
  rw [h.queries, h.number]
  rfl

/-- A trip's key chunk. -/
theorem key_chunk (h : Carries V s j) : res_main_while0b_v124 V = Step.b11 j s := by
  unfold res_main_while0b_v124
  rw [h.keys, h.number]
  rfl

/-- A trip's value chunk. -/
theorem value_chunk (h : Carries V s j) : res_main_while0b_v125 V = Step.b17 j s := by
  unfold res_main_while0b_v125
  rw [h.values, h.number]
  rfl

/-- One trip's new recurrence state. -/
theorem step_state (h : Carries V s j) : step_main_v97_5 V = (step j s).main_v97_5 := by
  unfold step_main_v97_5
  rw [key_chunk h, value_chunk h, h.state, h.rates]
  rfl

/-- One trip writes its chunk of outputs into the stack of outputs. -/
theorem step_outs (h : Carries V s j) : step_main_v97_6 V = (step j s).main_v97_6 := by
  unfold step_main_v97_6
  rw [query_chunk h, key_chunk h, value_chunk h, h.state, h.rates, h.outs, h.number]
  rfl

/-- One trip raises the number by one. -/
theorem step_number (h : Carries V s j) : step_main_v97_4 V = constantI S_ 32 (BitVec.ofNat 32 (j + 1)) := by
  unfold step_main_v97_4
  rw [h.number, BitVec.ofNat_add]
  rfl

/-- One trip: the memory then carries the next state. -/
theorem carries_step (h : Carries V s j) : Carries (STEP V) (step j s) (j + 1) where
  state := (STEP_main_v97_5 V).trans (step_state h)
  outs := (STEP_main_v97_6 V).trans (step_outs h)
  queries := (STEP_main_v97_0 V).trans h.queries
  keys := (STEP_main_v97_1 V).trans h.keys
  values := (STEP_main_v97_2 V).trans h.values
  number := (STEP_main_v97_4 V).trans (step_number h)
  rates := (STEP_main_v97_3 V).trans h.rates

variable (m : (ℓ : Loc nD τ sig) → Buf (Elt F) ℓ)

/-- The reference's argument. -/
abbrev argOf (c : Dev nD) : (⟨S4x2048x8704, .f32⟩ : BufTy).Contents (Elt F) := m ((c.tc : Thread nD τ).loc main_arg0)

set_option maxRecDepth 65536 in
set_option maxHeartbeats 400000 in
/-- The operations before the loop leave the first state. -/
theorem carries_entry (c : Dev nD) : Carries (entryContents preI m c) (init (argOf m c)) 0 := by
  constructor <;> (simp only [entryContents, afterL_cons, afterL_nil]; after_reads_simp) <;> rfl

/-- The states of the loop over the chunks. -/
def states (z : (⟨S4x2048x8704, .f32⟩ : BufTy).Contents (Elt F)) : ℕ → State F
  | 0 => init z
  | n + 1 => step n (states z n)

/-- Before trip `k` the memory carries state `k`. -/
theorem carries_states (c : Dev nD) :
    ∀ k, Carries (STEP^[k] (entryContents preI m c)) (states (argOf m c) k) k
  | 0 => carries_entry m c
  | k + 1 => by
    rw [Function.iterate_succ_apply']
    exact carries_step (carries_states c k)

/-- The reference ends with its two results read off the sixteenth state, and its argument as it was. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v122) = Step.R_main_v122 (states (argOf m c) 16) (argOf m c)
      ∧ r.2.mem ((c.tc : Thread nD τ).loc main_v97_5) = (states (argOf m c) 16).main_v97_5
      ∧ r.2.mem ((c.tc : Thread nD τ).loc main_arg0) = argOf m c :=
  (θ_run defs _ _).mono (fun _ h c =>
    have hk := carries_states m c 16
    ⟨(h c).1.trans (by
        unfold out_main_v122 Step.R_main_v122
        rw [hk.outs, iter_main_arg0 m c 16]
        rfl),
      (h c).2.1.trans hk.state, (h c).2.2⟩) (Value.run m ρ)

end Cert.RetRefIdeal.Chunks

end
-- ==== Proof.Input.lean ====
/- The input projection: what its kernel leaves in the result array is the reference's product.
   The kernel visits the batches in order and, within a batch, seventeen blocks of 512 columns. The batch's first point
   scales and shifts the activations and keeps them; every point multiplies the kept rows by its block of columns. -/
module

public import proofs.«01_k».proof.Proof.Gen.InpIdeal.Value
public import proofs.«01_k».proof.Proof.Gen.InpRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Claim
public import proofs.«01_k».proof.Defs

@[expose] public section

set_option maxRecDepth 16384

noncomputable section

namespace Cert.InpIdeal.Value

open Cert.InpIdeal Cert.InpIdeal.Gen Idealize.ShloMosaic Idealize.ShloMosaic.TcCoe Idealize.SL.Sem
open Idealize.ShloMosaic.Pipeline (Dat)

variable (m : (ℓ : Loc nD τ sig) → Buf (Elt Ideal) ℓ)

/-- The reference: the activations scaled by one plus `sc` and shifted by `sh`, times the layer's weights. -/
abbrev inRef (x : FVec Ideal S4x2048x2048 .f32) (sc sh : FVec Ideal S4x2048 .f32) (w : FVec Ideal S4x2048x8704 .f32) :
    FVec Ideal S4x2048x8704 .f32 :=
  Host.dotGeneral Cert.InpRefIdeal.dot_S4x2048x2048_S2048x8704_S4x2048x8704_2_0_01_1_n_n none
    (addf (mulf x (broadcastInDim Cert.InpRefIdeal.S4x2048x2048 ![0, 1, 2] Cert.InpRefIdeal.Gen.bcast_S4x1x2048_S4x2048x2048_0_1_2
        (addf (broadcastInDim Cert.InpRefIdeal.S4x1x2048 ![] Cert.InpRefIdeal.Gen.bcast_S_S4x1x2048 (constant Cert.InpRefIdeal.S_ .f32 0x3F800000#32))
          (broadcastInDim Cert.InpRefIdeal.S4x1x2048 ![0, 2] Cert.InpRefIdeal.Gen.bcast_S4x2048_S4x1x2048_0_2 sc))))
      (broadcastInDim Cert.InpRefIdeal.S4x2048x2048 ![0, 1, 2] Cert.InpRefIdeal.Gen.bcast_S4x1x2048_S4x2048x2048_0_1_2
        (broadcastInDim Cert.InpRefIdeal.S4x1x2048 ![0, 2] Cert.InpRefIdeal.Gen.bcast_S4x2048_S4x1x2048_0_2 sh)))
    (shapeCast _ (extractStridedSlice Cert.InpRefIdeal.S1x2048x8704 ![0, 0, 0] w Cert.InpRefIdeal.Gen.slices_S4x2048x8704_S1x2048x8704_0_0_0)
      Cert.InpRefIdeal.Gen.shapeCasts_S1x2048x8704_S2048x8704)

/-- Which block of each array a grid point works on: the batch is the point's number over seventeen, the columns its remainder. -/
theorem idx_in : ∀ t : Fin cfg0.N, win0_0.index t = ![t.val / 17, 0, 0] ∧ win0_1.index t = ![t.val / 17, 0, 0]
    ∧ win0_2.index t = ![t.val / 17, 0, 0] ∧ win0_3.index t = ![0, 0, t.val % 17] ∧ win0_4.index t = ![t.val / 17, 0, t.val % 17] :=
  (by decide +kernel : ∀ t : Fin grid0.N, _)

/-- The scaled and shifted activations of a batch, as the batch's first point keeps them. -/
abbrev kept (c : Dev nD) (t : Fin cfg0.N) : FVec Ideal S2048x2048 .bf16 :=
  k0_pay1 (F := Ideal) (iblk m c 0 t) (iblk m c 1 t) (iblk m c 2 t)

/-- At every point the scratch holds the activations that the batch's first point kept. -/
theorem scratch_eq (c : Dev nD) (t : Fin cfg0.N) :
    (outsAt0 m c t.val t.isLt).2 = kept m c ⟨17 * (t.val / 17), Pipeline.run_start_lt t⟩ :=
  Pipeline.eq_of_write_hold (fun n h => (outsAt0 m c n h).2) 17 (kept m c)
    (fun t h => by rw [outsAt0_A m c t h]; frame_out)
    (fun t h => by rw [outsAt0_B m c t h]; rfl) t

/-- At every point the result block is the product of the kept activations and the point's columns of weights. -/
theorem stored_in (c : Dev nD) (t : Fin cfg0.N) :
    (outsAt0 m c t.val t.isLt).1
      = k0_pay2 (F := Ideal) (iblk m c 3 t) (kept m c ⟨17 * (t.val / 17), Pipeline.run_start_lt t⟩) := by
  rw [← scratch_eq m c t]
  by_cases h : t.val % 17 = 0
  · rw [outsAt0_A m c t h]; frame_out
  · have hs : (outsAt0 m c t.val t.isLt).2 = (outsAt0 m c (t.val - 1) (Nat.lt_of_le_of_lt (Nat.sub_le _ _) t.isLt)).2 := by
      rw [outsAt0_B m c t h]; rfl
    rw [hs, outsAt0_B m c t h]; frame_out
    simp only [read_unread_whole]

/-- What a point stores, over any point of the same batch that kept the activations. -/
theorem point_in (c : Dev nD) (t s : Fin cfg0.N) (h : s.val / 17 = t.val / 17) (y : S1x2048x512.Idx) :
    k0_pay2 (F := Ideal) (iblk m c 3 t) (kept m c s) y
      = inRef (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay2, k0_pay1, inRef]
  blk_point [iblk, V, idx_in t, idx_in s, h]

/-- The result array after the run is the reference's product. -/
theorem final_in (c : Dev nD) : (dats m 0 c).arrAt 4 (cfgs 0).N
    = inRef (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4, stored_in m c t]
  exact point_in m c t _ (by show 17 * (t.val / 17) / 17 = t.val / 17; omega) y

end Cert.InpIdeal.Value

namespace Cert.Proof

open Idealize.ShloMosaic Idealize.ShloMosaic.TcCoe Idealize.SL.Sem

/-- The input projection's kernel and its reference end with the same array. -/
theorem input : Cert.algebraic_InpIdeal_InpRefIdeal (hInpIdeal := Cert.InpIdeal.Gen.facts)
    (hInpRefIdeal := Cert.InpRefIdeal.Gen.facts) := by
  pair_intro
  · run_from Cert.InpIdeal.Gen.run_main m g
  · run_from Cert.InpRefIdeal.Value.run m' g'
    exact (Cert.InpIdeal.Value.final_in m c).symm

end Cert.Proof

end
-- ==== Proof.RetentionMath.lean ====
/- The retention of one head, in plain formulas over extended reals.

   A prompt of 2048 rows is walked in sixteen chunks of 128. Queries and keys are turned by the row's angles; a chunk's
   result is what its own rows give under the decay mask plus what the memory of the earlier chunks gives, and the
   memory decays by a whole chunk and takes the chunk's keys and values in. -/
module

public import Idealize.ShloMosaic.Lib.Pipeline.ValueKit

@[expose] public section

noncomputable section

namespace Cert.Proof.Retention

open Idealize.ShloMosaic

/-- An integer as the programs make a float of it. -/
abbrev num (n : ℕ) : EReal := FloatOps.sitofp (F := Ideal) FTy.f32 (BitVec.ofNat 32 n)

/-- The logarithm of head `h`'s decay per row. -/
def rate (h : Fin 4) : EReal :=
  Ideal.log1p (-Ideal.exp (Ideal.ofBits FTy.f32 0x3F317218#32 * (Ideal.ofBits FTy.f32 0xC0A00000#32 - num h.val)))

/-- The angle by which row `t` turns the pair of coordinates `i` and `i + 64`. -/
def angle (t : Fin 2048) (i : Fin 64) : EReal :=
  num t.val * Ideal.pow (Ideal.ofBits FTy.f32 0x461C4000#32) (Ideal.div (-num i.val) (Ideal.ofBits FTy.f32 0x42800000#32))

/-- A row of 128 coordinates turned by row `t`'s angles. -/
def turned (x : Fin 128 → EReal) (t : Fin 2048) (d : Fin 128) : EReal :=
  if h : d.val < 64 then x d * Ideal.cos (angle t ⟨d.val, h⟩) - x ⟨64 + d.val, by omega⟩ * Ideal.sin (angle t ⟨d.val, h⟩)
  else x d * Ideal.cos (angle t ⟨d.val - 64, by omega⟩) + x ⟨d.val - 64, by omega⟩ * Ideal.sin (angle t ⟨d.val - 64, by omega⟩)

/-- How much of row `m` is left at row `n` of the same chunk: nothing of later rows. -/
def decay (h : Fin 4) (n m : Fin 128) : EReal :=
  if 0 ≤ num n.val - num m.val then Ideal.exp (rate h * max (num n.val - num m.val) 0) else 0

/-- How much of the memory is left at row `n` of a chunk. -/
def sinceStart (h : Fin 4) (n : Fin 128) : EReal := Ideal.exp (rate h * (num n.val + 1))

/-- How much of row `n` is left at the end of its chunk. -/
def untilEnd (h : Fin 4) (n : Fin 128) : EReal := Ideal.exp (rate h * (Ideal.ofBits FTy.f32 0x42FE0000#32 - num n.val))

/-- How much of the memory is left after a whole chunk. -/
def wholeChunk (h : Fin 4) : EReal := Ideal.exp (rate h * Ideal.ofBits FTy.f32 0x43000000#32)

/-- Row `n` of chunk `k`. -/
abbrev row (k : Fin 16) (n : Fin 128) : Fin 2048 := ⟨k.val * 128 + n.val, by omega⟩

section
variable (z : Fin 4 → Fin 2048 → Fin 8704 → EReal) (b h : Fin 4)

def query (t : Fin 2048) (d : Fin 128) : EReal := turned (fun d => z b t ⟨5632 + (h.val * 128 + d.val), by omega⟩) t d

def key (t : Fin 2048) (d : Fin 128) : EReal :=
  turned (fun d => z b t ⟨6144 + (h.val * 128 + d.val), by omega⟩) t d * Ideal.ofBits FTy.f32 0x3DB504F3#32

def value (t : Fin 2048) (e : Fin 256) : EReal := z b t ⟨6656 + (h.val * 256 + e.val), by omega⟩

def gate (t : Fin 2048) (e : Fin 256) : EReal := z b t ⟨7680 + (h.val * 256 + e.val), by omega⟩

/-- The memory before chunk `k`. -/
def memory : ℕ → Fin 128 → Fin 256 → EReal
  | 0 => fun _ _ => 0
  | k + 1 => fun d e =>
    if hk : k < 16 then
      memory k d e * wholeChunk h + ∑ n, key z b h (row ⟨k, hk⟩ n) d * untilEnd h n * value z b h (row ⟨k, hk⟩ n) e
    else memory k d e

theorem memory_succ (k : Fin 16) (d : Fin 128) (e : Fin 256) :
    memory z b h (k.val + 1) d e
      = memory z b h k.val d e * wholeChunk h + ∑ n, key z b h (row k n) d * untilEnd h n * value z b h (row k n) e :=
  dif_pos k.isLt

/-- Row `n` of what chunk `k` gives. -/
def out (k : Fin 16) (n : Fin 128) (e : Fin 256) : EReal :=
  ∑ m, (∑ d, query z b h (row k n) d * key z b h (row k m) d) * decay h n m * value z b h (row k m) e
    + (∑ d, query z b h (row k n) d * memory z b h k.val d e) * sinceStart h n

/-- A row of 256 with its mean taken away, over its deviation. -/
def normed (o : Fin 256 → EReal) (e : Fin 256) : EReal :=
  (o e - Ideal.div (∑ x, o x) (Ideal.ofBits FTy.f32 0x43800000#32)) *
    Ideal.rsqrt (Ideal.div (∑ x, (o x - Ideal.div (∑ y, o y) (Ideal.ofBits FTy.f32 0x43800000#32))
        * (o x - Ideal.div (∑ y, o y) (Ideal.ofBits FTy.f32 0x43800000#32))) (Ideal.ofBits FTy.f32 0x43800000#32)
      + Ideal.ofBits FTy.f32 0x3727C5AC#32)

/-- Row `n` of chunk `k` as the layer leaves it: normalised, under the gate. -/
def gated (k : Fin 16) (n : Fin 128) (e : Fin 256) : EReal :=
  gate z b h (row k n) e * Ideal.div 1 (1 + Ideal.exp (-gate z b h (row k n) e)) * normed (out z b h k n) e
end

end Cert.Proof.Retention

end
-- ==== Proof.RetentionChunk.lean ====
/- One grid point of the retention kernel, index by index: its scratch holds the memory of `RetentionMath`, the rows it
   stores are the head's gated rows. -/
module

public import proofs.«01_k».proof.Proof.RetentionFrame
public import proofs.«01_k».proof.Proof.RetentionMath

@[expose] public section

set_option maxRecDepth 16384

noncomputable section

namespace Cert.RetIdeal.Scan

open Cert.RetIdeal Cert.RetIdeal.Gen
open Idealize.ShloMosaic Idealize.ShloMosaic.TcCoe Idealize.SL.Sem
open Cert.Proof.Retention

/-! ## The loop's sixteen trips -/

theorem trips_eq : k0_t1_loop.trips = 16 := by decide

/-- A trip's chunk. -/
def chunk (k : Fin k0_t1_loop.trips) : Fin 16 := ⟨k.val, trips_eq ▸ k.isLt⟩

theorem chunk_val (k : Fin k0_t1_loop.trips) : (chunk k).val = k.val := rfl

/-- Where a trip's blocks of rows start. -/
theorem offs : ∀ k : Fin k0_t1_loop.trips, k0_off1 k 0 = k.val * 128 ∧ k0_off1 k 1 = 0
    ∧ k0_off2 k 0 = 0 ∧ k0_off2 k 1 = k.val * 128 ∧ k0_off2 k 2 = 0
    ∧ k0_off3 k 0 = 0 ∧ k0_off3 k 1 = k.val * 128 ∧ k0_off3 k 2 = 0 := by decide +kernel

theorem tableRows_at (x : Vec Ideal S2048x128 .f32) (k : Fin k0_t1_loop.trips) (n d : Fin 128) :
    tableRows x k (ix2 n d) = x (ix2 (row (chunk k) n) d) := by
  pointwise [tableRows]
  refine congrArg x ?_
  blk_ext [offs k]
  rfl

theorem keyRows_at (x : Vec Ideal S1x2048x128 .f32) (k : Fin k0_t1_loop.trips) (n d : Fin 128) :
    keyRows x k (ix3 0 n d) = x (ix3 0 (row (chunk k) n) d) := by
  pointwise [keyRows]
  refine congrArg x ?_
  blk_ext [offs k]
  rfl

theorem valueRows_at (x : Vec Ideal S1x2048x256 .f32) (k : Fin k0_t1_loop.trips) (n : Fin 128) (e : Fin 256) :
    valueRows x k (ix3 0 n e) = x (ix3 0 (row (chunk k) n) e) := by
  pointwise [valueRows]
  refine congrArg x ?_
  blk_ext [offs k]
  rfl

/-! ## The blocks a grid point works on -/

/-- The tables' entries at row `t`: the cosines twice, and the sines, negated in the first half. -/
def cosEntry (t : Fin 2048) (d : Fin 128) : EReal :=
  if h : d.val < 64 then Ideal.cos (angle t ⟨d.val, h⟩) else Ideal.cos (angle t ⟨d.val - 64, by omega⟩)
@[inherit_doc cosEntry]
def sinEntry (t : Fin 2048) (d : Fin 128) : EReal :=
  if h : d.val < 64 then -Ideal.sin (angle t ⟨d.val, h⟩) else Ideal.sin (angle t ⟨d.val - 64, by omega⟩)

/-- Turning by the tables: the row times the cosines, plus the row moved by 64 times the sines. -/
theorem turned_tables (x : Fin 128 → EReal) (t : Fin 2048) (d : Fin 128) :
    x d * cosEntry t d + x ⟨(d.val + 128 - 64) % 128, by omega⟩ * sinEntry t d = turned x t d := by
  unfold cosEntry sinEntry turned
  split
  · next hd =>
    rw [show (⟨(d.val + 128 - 64) % 128, by omega⟩ : Fin 128) = ⟨64 + d.val, by omega⟩ from Fin.ext (by show (d.val + 128 - 64) % 128 = 64 + d.val; omega),
      mul_neg, ← sub_eq_add_neg]
  · next hd =>
    rw [show (⟨(d.val + 128 - 64) % 128, by omega⟩ : Fin 128) = ⟨d.val - 64, by omega⟩ from Fin.ext (by show (d.val + 128 - 64) % 128 = d.val - 64; omega)]

/-- The blocks of batch `b` and head `h` of the argument `z`, beside the tables. -/
structure Blocks (z : Fin 4 → Fin 2048 → Fin 8704 → EReal) (b h : Fin 4) (x0 x1 : Vec Ideal S1x2048x128 .f32)
    (x2 x3 : Vec Ideal S1x2048x256 .f32) (x4 x5 : Vec Ideal S2048x128 .f32) (x6 : Vec Ideal S1x128x128 .f32)
    (x7 : Vec Ideal S1x128x256 .f32) (x8 : Vec Ideal S1x128x128 .f32) (x9 : Vec Ideal S1x1x256 .f32)
    (x10 : Vec Ideal S1x1x128x256 .f32) : Prop where
  queries : ∀ (t : Fin 2048) (d : Fin 128), x0 (ix3 0 t d) = z b t ⟨5632 + (h.val * 128 + d.val), by omega⟩
  keys : ∀ (t : Fin 2048) (d : Fin 128), x1 (ix3 0 t d) = z b t ⟨6144 + (h.val * 128 + d.val), by omega⟩
  values : ∀ (t : Fin 2048) (e : Fin 256), x2 (ix3 0 t e) = value z b h t e
  gates : ∀ (t : Fin 2048) (e : Fin 256), x3 (ix3 0 t e) = gate z b h t e
  cosines : ∀ (t : Fin 2048) (d : Fin 128), x4 (ix2 t d) = cosEntry t d
  sines : ∀ (t : Fin 2048) (d : Fin 128), x5 (ix2 t d) = sinEntry t d
  decays : ∀ n m : Fin 128, x6 (ix3 0 n m) = decay h n m
  starts : ∀ (n : Fin 128) (e : Fin 256), x7 (ix3 0 n e) = sinceStart h n
  ends : ∀ n d : Fin 128, x8 (ix3 0 n d) = untilEnd h n
  whole : ∀ e : Fin 256, x9 (ix3 0 0 e) = wholeChunk h
  empty : ∀ (d : Fin 128) (e : Fin 256), x10 (ix4 0 0 d e) = 0

section
variable {z : Fin 4 → Fin 2048 → Fin 8704 → EReal} {b h : Fin 4} {x0 x1 : Vec Ideal S1x2048x128 .f32}
  {x2 x3 : Vec Ideal S1x2048x256 .f32} {x4 x5 : Vec Ideal S2048x128 .f32} {x6 : Vec Ideal S1x128x128 .f32}
  {x7 : Vec Ideal S1x128x256 .f32} {x8 : Vec Ideal S1x128x128 .f32} {x9 : Vec Ideal S1x1x256 .f32}
  {x10 : Vec Ideal S1x1x128x256 .f32} (B : Blocks z b h x0 x1 x2 x3 x4 x5 x6 x7 x8 x9 x10)
include B

theorem query_at (k : Fin k0_t1_loop.trips) (n d : Fin 128) :
    k0_pay8 (tableRows x4 k) (tableRows x5 k) (keyRows x0 k) (ix2 n d) = query z b h (row (chunk k) n) d := by
  unfold query
  rw [← turned_tables]
  pointwise [k0_pay8, k0_pay4, k0_pay5]
  simp only [tableRows_at, keyRows_at, B.queries, B.cosines, B.sines]

theorem key_at (k : Fin k0_t1_loop.trips) (n d : Fin 128) :
    k0_pay6 (tableRows x4 k) (tableRows x5 k) (keyRows x1 k) (ix2 n d) = key z b h (row (chunk k) n) d := by
  unfold key
  rw [← turned_tables]
  pointwise [k0_pay6, k0_pay4, k0_pay5]
  simp only [tableRows_at, keyRows_at, B.keys, B.cosines, B.sines]

theorem value_at (k : Fin k0_t1_loop.trips) (n : Fin 128) (e : Fin 256) :
    k0_pay9 (valueRows x2 k) (ix2 n e) = value z b h (row (chunk k) n) e := by
  pointwise [k0_pay9]
  rw [valueRows_at, B.values]

theorem gate_at (k : Fin k0_t1_loop.trips) (n : Fin 128) (e : Fin 256) :
    k0_pay7 (valueRows x3 k) (ix2 n e) = gate z b h (row (chunk k) n) e := by
  pointwise [k0_pay7]
  rw [valueRows_at, B.gates]

/-! ## What a trip leaves -/

theorem nextState_at (k : Fin k0_t1_loop.trips) (s : Vec Ideal S128x256 .f32) (d : Fin 128) (e : Fin 256) :
    nextState x1 x2 x4 x5 x8 x9 k s (ix2 d e) = s (ix2 d e) * wholeChunk h
      + ∑ n, key z b h (row (chunk k) n) d * untilEnd h n * value z b h (row (chunk k) n) e := by
  unfold nextState
  pointwise [k0_pay11]
  simp only [key_at B, value_at B, B.ends, B.whole]

/-- The scratch before trip `n` is the memory. -/
theorem stateAt_eq (n : ℕ) (hn : n ≤ k0_t1_loop.trips) (d : Fin 128) (e : Fin 256) :
    stateAt x1 x2 x4 x5 x8 x9 x10 n (ix2 d e) = memory z b h n d e := by
  induction n generalizing d e with
  | zero =>
    show k0_pay1 x10 (ix2 d e) = 0
    pointwise [k0_pay1]
    exact B.empty d e
  | succ n ih =>
    have hk : n < k0_t1_loop.trips := hn
    rw [stateAt_succ _ _ _ _ _ _ _ n hk, nextState_at B, ih hk.le]
    exact (memory_succ z b h (chunk ⟨n, hk⟩) d e).symm

/-- What a trip computes before the norm. -/
theorem within_at (k : Fin k0_t1_loop.trips) (n : Fin 128) (e : Fin 256) :
    k0_pay10 (tableRows x4 k) (tableRows x5 k) (keyRows x0 k) (keyRows x1 k) (valueRows x2 k) x6 (ix2 n e)
      = ∑ m, (∑ d, query z b h (row (chunk k) n) d * key z b h (row (chunk k) m) d) * decay h n m * value z b h (row (chunk k) m) e := by
  pointwise [k0_pay10]
  simp only [query_at B, key_at B, value_at B, B.decays]

omit B in
/-- The norm of a trip's rows, from the rows. -/
theorem norm_at (q : FVec Ideal S128x128 .bf16) (w : FVec Ideal S128x256 .f32) (s : Vec Ideal S128x256 .f32) (y : Vec Ideal S1x128x256 .f32)
    (n : Fin 128) (e : Fin 256) :
    k0_pay12 q w s y (ix2 n e) = normed (fun e => w (ix2 n e) + (∑ d, q (ix2 n d) * s (ix2 d e)) * y (ix3 0 n e)) e := by
  unfold normed
  pointwise [k0_pay12]

omit B in
theorem store_at (g w l : FVec Ideal S128x256 .f32) (n : Fin 128) (e : Fin 256) :
    k0_pay2 g w l (ix3 0 n e) = g (ix2 n e) * l (ix2 n e) * w (ix2 n e) := by
  pointwise [k0_pay2]

omit B in
theorem logistic_at (g : FVec Ideal S128x256 .f32) (n : Fin 128) (e : Fin 256) :
    k0_pay13 g (ix2 n e) = Ideal.div 1 (1 + Ideal.exp (-g (ix2 n e))) := by
  pointwise [k0_pay13]
  rfl

theorem chunkOut_at (k : Fin k0_t1_loop.trips) (n : Fin 128) (e : Fin 256) :
    chunkOut x0 x1 x2 x3 x4 x5 x6 x7 k (stateAt x1 x2 x4 x5 x8 x9 x10 k.val) (ix3 0 n e) = gated z b h (chunk k) n e := by
  unfold chunkOut gated
  rw [store_at, logistic_at, norm_at, gate_at B]
  refine congrArg₂ (· * ·) rfl (congrArg (fun o => normed o e) (funext fun x => ?_))
  unfold out
  simp only [within_at B, query_at B, stateAt_eq B k.val k.isLt.le, B.starts, chunk_val]

/-! ## The two output blocks -/

theorem rows_allAt (n : ℕ) (hn : n ≤ k0_t1_loop.trips) (r : Fin 2048) (e : Fin 256) :
    View.AllAt (Val := Elt Ideal) (rowsDone x0 x1 x2 x3 x4 x5 x6 x7 x8 x9 x10 n) (ix3 0 r e)
      (gated z b h ⟨r.val / 128, by omega⟩ ⟨r.val % 128, by omega⟩ e) := by
  induction n with
  | zero => exact View.allAt_nil _ _
  | succ n ih =>
    have hk : n < k0_t1_loop.trips := hn
    rw [rowsDone_succ _ _ _ _ _ _ _ _ _ _ _ n hk]
    refine View.allAt_cons_unit _ _ _ _ _ (fun x hx => ?_) (ih hk.le)
    obtain ⟨-, -, -, -, -, -, o1, o2⟩ := offs ⟨n, hk⟩
    have h1 : r.val = n * 128 + (x 1).val := (hx 1).trans (congrArg (· + _) o1)
    have h2 : e.val = 0 + (x 2).val := (hx 2).trans (congrArg (· + _) o2)
    have hx1 : (x 1).val < 128 := (x 1).isLt
    have ex : x = ix3 0 (⟨r.val % 128, by omega⟩ : Fin 128) e := by
      funext a; fin_cases a
      · exact Subsingleton.elim (α := Fin 1) _ _
      · exact Fin.ext (by show (x 1).val = r.val % 128; omega)
      · exact Fin.ext (by show (x 2).val = e.val; omega)
    rw [ex]
    refine (chunkOut_at B ⟨n, hk⟩ _ e).trans ?_
    rw [show chunk ⟨n, hk⟩ = ⟨r.val / 128, by omega⟩ from Fin.ext (by show n = r.val / 128; omega)]

theorem outBlock_at (r : Fin 2048) (e : Fin 256) :
    outBlock x0 x1 x2 x3 x4 x5 x6 x7 x8 x9 x10 (ix3 0 r e) = gated z b h ⟨r.val / 128, by omega⟩ ⟨r.val % 128, by omega⟩ e :=
  View.canon_eq_of_allAt _ _ _ (rows_cover x0 x1 x2 x3 x4 x5 x6 x7 x8 x9 x10 _) (rows_allAt B _ le_rfl r e)

theorem stateBlock_at (d : Fin 128) (e : Fin 256) :
    stateBlock x1 x2 x4 x5 x8 x9 x10 (ix4 0 0 d e) = memory z b h 16 d e := by
  have e1 : stateBlock x1 x2 x4 x5 x8 x9 x10 = k0_pay3 (stateAt x1 x2 x4 x5 x8 x9 x10 k0_t1_loop.trips) :=
    View.canon_cons_unit_lit _ _ _ (by decide)
  rw [e1]
  pointwise [k0_pay3]
  exact (stateAt_eq B _ le_rfl d e).trans (by rw [trips_eq])
end

end Cert.RetIdeal.Scan

end
-- ==== Proof.RetentionTables.lean ====
/- The tables that the retention program's host lines lay out for its kernel, index by index, and the blocks a grid point
   reads of them and of the argument. -/
module

public import proofs.«01_k».proof.Proof.RetentionChunk

@[expose] public section

set_option maxRecDepth 16384

noncomputable section

namespace Cert.RetIdeal.Scan

open Cert.RetIdeal Cert.RetIdeal.Gen
open Idealize.ShloMosaic Idealize.ShloMosaic.TcCoe Idealize.SL.Sem
open Cert.Proof.Retention

variable (m : (ℓ : Loc nD τ sig) → Buf (Elt Ideal) ℓ)

/-- The cosines the host lays out for the kernel, -/
abbrev cosines (c : Dev nD) : Vec Ideal S2048x128 .f32 := V m c main_v15
/-- the sines, -/
abbrev sines (c : Dev nD) : Vec Ideal S2048x128 .f32 := V m c main_v17
/-- the decays within a chunk, -/
abbrev decays (c : Dev nD) : Vec Ideal S4x128x128 .f32 := V m c main_v42
/-- since its start, -/
abbrev starts (c : Dev nD) : Vec Ideal S4x128x256 .f32 := V m c main_v67
/-- until its end, -/
abbrev ends (c : Dev nD) : Vec Ideal S4x128x128 .f32 := V m c main_v69
/-- of a whole chunk, -/
abbrev wholes (c : Dev nD) : Vec Ideal S4x1x256 .f32 := V m c main_v71
/-- and the empty memory. -/
abbrev empties (c : Dev nD) : Vec Ideal S4x4x128x256 .f32 := V m c main_v72

/-- A row's number within its chunk is below 128. -/
theorem num_lt (n : Fin 128) : num n.val < Ideal.ofBits FTy.f32 0x43000000#32 := by
  have h1 : num n.val = (((n.val : ℤ) : ℝ) : EReal) := by
    show (((BitVec.ofNat 32 n.val).toInt : ℝ) : EReal) = _
    rw [(by decide : ∀ n : Fin 128, (BitVec.ofNat 32 n.val).toInt = (n.val : ℤ)) n]
  have h2 : Ideal.ofBits FTy.f32 0x43000000#32 = ((128 : ℝ) : EReal) := by
    simp [Ideal.ofBits, Ideal.ieee, -EReal.coe_mul]
    norm_num
  rw [h1, h2, EReal.coe_lt_coe_iff]
  have := n.isLt
  exact_mod_cast this

theorem cosines_at (c : Dev nD) (t : Fin 2048) (d : Fin 128) : cosines m c (ix2 t d) = cosEntry t d := by
  unfold cosines V
  simp only [hostOps0, hostOps0_1, hostOps0_2, hostOps0_3, hostOps0_4, List.flatten_cons, List.flatten_nil, List.append_nil, List.cons_append, List.nil_append]
  after_results_simp
  unfold cosEntry angle
  pointwise

theorem sines_at (c : Dev nD) (t : Fin 2048) (d : Fin 128) : sines m c (ix2 t d) = sinEntry t d := by
  unfold sines V
  simp only [hostOps0, hostOps0_1, hostOps0_2, hostOps0_3, hostOps0_4, List.flatten_cons, List.flatten_nil, List.append_nil, List.cons_append, List.nil_append]
  after_results_simp
  unfold sinEntry angle
  pointwise

theorem decays_at (c : Dev nD) (h : Fin 4) (n k : Fin 128) : decays m c (ix3 h n k) = decay h n k := by
  unfold decays V
  simp only [hostOps0, hostOps0_1, hostOps0_2, hostOps0_3, hostOps0_4, List.flatten_cons, List.flatten_nil, List.append_nil, List.cons_append, List.nil_append]
  after_results_simp
  simp only [StableHlo.TRef.ofBuf, StableHlo.TRef.toBuf, cast_eq, id]
  unfold decay rate
  pointwise

theorem starts_at (c : Dev nD) (h : Fin 4) (n : Fin 128) (e : Fin 256) : starts m c (ix3 h n e) = sinceStart h n := by
  unfold starts V
  simp only [hostOps0, hostOps0_1, hostOps0_2, hostOps0_3, hostOps0_4, List.flatten_cons, List.flatten_nil, List.append_nil, List.cons_append, List.nil_append]
  after_results_simp
  unfold sinceStart rate
  pointwise

theorem ends_at (c : Dev nD) (h : Fin 4) (n d : Fin 128) : ends m c (ix3 h n d) = untilEnd h n := by
  unfold ends V
  simp only [hostOps0, hostOps0_1, hostOps0_2, hostOps0_3, hostOps0_4, List.flatten_cons, List.flatten_nil, List.append_nil, List.cons_append, List.nil_append]
  after_results_simp
  simp only [StableHlo.TRef.ofBuf, StableHlo.TRef.toBuf, cast_eq, id]
  unfold untilEnd rate
  pointwise
  exact if_pos (num_lt n)

theorem wholes_at (c : Dev nD) (h : Fin 4) (e : Fin 256) : wholes m c (ix3 h 0 e) = wholeChunk h := by
  unfold wholes V
  simp only [hostOps0, hostOps0_1, hostOps0_2, hostOps0_3, hostOps0_4, List.flatten_cons, List.flatten_nil, List.append_nil, List.cons_append, List.nil_append]
  after_results_simp
  unfold wholeChunk rate
  pointwise

theorem empties_at (c : Dev nD) (b h : Fin 4) (d : Fin 128) (e : Fin 256) : empties m c (ix4 b h d e) = 0 := by
  unfold empties V
  simp only [hostOps0, hostOps0_1, hostOps0_2, hostOps0_3, hostOps0_4, List.flatten_cons, List.flatten_nil, List.append_nil, List.cons_append, List.nil_append]
  after_results_simp
  pointwise

/-! ## The blocks of a grid point: batch `t / 4`, head `t % 4` -/

theorem idx : ∀ t : Fin cfg0.N, win0_0.index t = ![t.val / 4, 0, 44 + t.val % 4] ∧ win0_1.index t = ![t.val / 4, 0, 48 + t.val % 4]
    ∧ win0_2.index t = ![t.val / 4, 0, 26 + t.val % 4] ∧ win0_3.index t = ![t.val / 4, 0, 30 + t.val % 4]
    ∧ win0_4.index t = ![0, 0] ∧ win0_5.index t = ![0, 0] ∧ win0_6.index t = ![t.val % 4, 0, 0] ∧ win0_7.index t = ![t.val % 4, 0, 0]
    ∧ win0_8.index t = ![t.val % 4, 0, 0] ∧ win0_9.index t = ![t.val % 4, 0, 0] ∧ win0_10.index t = ![t.val / 4, t.val % 4, 0, 0]
    ∧ win0_11.index t = ![t.val / 4, 0, t.val % 4] ∧ win0_12.index t = ![t.val / 4, t.val % 4, 0, 0] :=
  (by decide +kernel : ∀ t : Fin grid0.N, _)

/-- The argument, read at its three indices. -/
abbrev arg (c : Dev nD) : Fin 4 → Fin 2048 → Fin 8704 → EReal :=
  fun b t j => (show Vec Ideal S4x2048x8704 .f32 from m ((c : Thread nD τ).loc main_arg0)) (ix3 b t j)

theorem points (t : Fin cfg0.N) : t.val < 16 := t.isLt

/-- A point's batch and its head. -/
def batch (t : Fin cfg0.N) : Fin 4 := ⟨t.val / 4, by have := points t; omega⟩
@[inherit_doc batch] def head (t : Fin cfg0.N) : Fin 4 := ⟨t.val % 4, by omega⟩

end Cert.RetIdeal.Scan

end
-- ==== Proof.RetentionBlocks.lean ====
/- What each block of a grid point holds: its head's part of the argument, or its part of a table. -/
module

public import proofs.«01_k».proof.Proof.RetentionTables

@[expose] public section

set_option maxRecDepth 16384

noncomputable section

namespace Cert.RetIdeal.Scan

open Cert.RetIdeal Cert.RetIdeal.Gen
open Idealize.ShloMosaic Idealize.ShloMosaic.TcCoe Idealize.SL.Sem
open Cert.Proof.Retention

variable (m : (ℓ : Loc nD τ sig) → Buf (Elt Ideal) ℓ) (c : Dev nD) (t : Fin cfg0.N)

theorem queries_block (r : Fin 2048) (d : Fin 128) : iblk m c 0 t (ix3 0 r d)
    = arg m c (batch t) r ⟨5632 + ((head t).val * 128 + d.val), by omega⟩ := by
  blk_point [iblk, V_main_arg0 m c, idx t, batch, head]

theorem keys_block (r : Fin 2048) (d : Fin 128) : iblk m c 1 t (ix3 0 r d)
    = arg m c (batch t) r ⟨6144 + ((head t).val * 128 + d.val), by omega⟩ := by
  blk_point [iblk, V_main_arg0 m c, idx t, batch, head]

theorem values_block (r : Fin 2048) (e : Fin 256) : iblk m c 2 t (ix3 0 r e) = value (arg m c) (batch t) (head t) r e := by
  unfold value
  blk_point [iblk, V_main_arg0 m c, idx t, batch, head]

theorem gates_block (r : Fin 2048) (e : Fin 256) : iblk m c 3 t (ix3 0 r e) = gate (arg m c) (batch t) (head t) r e := by
  unfold gate
  blk_point [iblk, V_main_arg0 m c, idx t, batch, head]

/-! Where a window of a table lies in it, for any array of the table's shape -/

theorem cosines_read (A : Vec Ideal S2048x128 .f32) (r : Fin 2048) (d : Fin 128) :
    ((cfg0.win 4).blk t).view.read (Elt Ideal) A (ix2 r d) = A (ix2 r d) :=
  congrArg A (by blk_ext [idx t])

theorem sines_read (A : Vec Ideal S2048x128 .f32) (r : Fin 2048) (d : Fin 128) :
    ((cfg0.win 5).blk t).view.read (Elt Ideal) A (ix2 r d) = A (ix2 r d) :=
  congrArg A (by blk_ext [idx t])

theorem decays_read (A : Vec Ideal S4x128x128 .f32) (n k : Fin 128) :
    ((cfg0.win 6).blk t).view.read (Elt Ideal) A (ix3 0 n k) = A (ix3 (head t) n k) :=
  congrArg A (by blk_ext [idx t, head])

theorem starts_read (A : Vec Ideal S4x128x256 .f32) (n : Fin 128) (e : Fin 256) :
    ((cfg0.win 7).blk t).view.read (Elt Ideal) A (ix3 0 n e) = A (ix3 (head t) n e) :=
  congrArg A (by blk_ext [idx t, head])

theorem ends_read (A : Vec Ideal S4x128x128 .f32) (n d : Fin 128) :
    ((cfg0.win 8).blk t).view.read (Elt Ideal) A (ix3 0 n d) = A (ix3 (head t) n d) :=
  congrArg A (by blk_ext [idx t, head])

theorem wholes_read (A : Vec Ideal S4x1x256 .f32) (e : Fin 256) :
    ((cfg0.win 9).blk t).view.read (Elt Ideal) A (ix3 0 0 e) = A (ix3 (head t) 0 e) :=
  congrArg A (by blk_ext [idx t, head])

theorem empties_read (A : Vec Ideal S4x4x128x256 .f32) (d : Fin 128) (e : Fin 256) :
    ((cfg0.win 10).blk t).view.read (Elt Ideal) A (ix4 0 0 d e) = A (ix4 (batch t) (head t) d e) :=
  congrArg A (by blk_ext [idx t, batch, head])

theorem cosines_block (r : Fin 2048) (d : Fin 128) : iblk m c 4 t (ix2 r d) = cosEntry r d :=
  (cosines_read t (cosines m c) r d).trans (cosines_at m c r d)

theorem sines_block (r : Fin 2048) (d : Fin 128) : iblk m c 5 t (ix2 r d) = sinEntry r d :=
  (sines_read t (sines m c) r d).trans (sines_at m c r d)

theorem decays_block (n k : Fin 128) : iblk m c 6 t (ix3 0 n k) = decay (head t) n k :=
  (decays_read t (decays m c) n k).trans (decays_at m c (head t) n k)

theorem starts_block (n : Fin 128) (e : Fin 256) : iblk m c 7 t (ix3 0 n e) = sinceStart (head t) n :=
  (starts_read t (starts m c) n e).trans (starts_at m c (head t) n e)

theorem ends_block (n d : Fin 128) : iblk m c 8 t (ix3 0 n d) = untilEnd (head t) n :=
  (ends_read t (ends m c) n d).trans (ends_at m c (head t) n d)

theorem wholes_block (e : Fin 256) : iblk m c 9 t (ix3 0 0 e) = wholeChunk (head t) :=
  (wholes_read t (wholes m c) e).trans (wholes_at m c (head t) e)

theorem empties_block (d : Fin 128) (e : Fin 256) : (show Vec Ideal S1x1x128x256 .f32 from iblk m c 10 t) (ix4 0 0 d e) = 0 :=
  (empties_read t (empties m c) d e).trans (empties_at m c (batch t) (head t) d e)

/-- A point's blocks are those of its batch and its head. -/
theorem blocks : Blocks (arg m c) (batch t) (head t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) :=
  ⟨queries_block m c t, keys_block m c t, values_block m c t, gates_block m c t, cosines_block m c t, sines_block m c t,
    decays_block m c t, starts_block m c t, ends_block m c t, wholes_block m c t, empties_block m c t⟩

end Cert.RetIdeal.Scan

end
-- ==== Proof.RetentionRef.lean ====
/- The retention reference, index by index: its scan's states are the memory of `RetentionMath`, its stacked outputs the
   chunks' rows. -/
module

public import proofs.«01_k».proof.Proof.RetentionRefRun
public import proofs.«01_k».proof.Proof.RetentionMath

@[expose] public section

set_option maxRecDepth 16384

noncomputable section

namespace Cert.RetRefIdeal.Chunks

open Idealize.ShloMosaic Idealize.ShloMosaic.TcCoe Idealize.SL.Sem
open Cert.RetRefIdeal Cert.RetRefIdeal.Gen Cert.RetRefIdeal.Step
open Cert.Proof.Retention

/-- The argument, read at its three indices. -/
abbrev rd (z : Vec Ideal S4x2048x8704 .f32) : Fin 4 → Fin 2048 → Fin 8704 → EReal := fun b t j => z (ix3 b t j)

/-! ## Before the scan -/

theorem rate_eq (h : Fin 4) : K_main_v7 (F := Ideal) (ix1 h) = rate h := by
  unfold rate
  pointwise [K_main_v7, K_main_v6, K_main_v5, K_main_v4, K_main_v3, K_main_v2, K_main_v1, K_main_v0, K_main_cst, K_main_cst_0]

theorem angle_eq (t : Fin 2048) (i : Fin 64) : K_main_v30 (F := Ideal) (ix2 t i) = angle t i := by
  unfold angle
  pointwise [K_main_v30, K_main_v29, K_main_v28, K_main_v27, K_main_v26, K_main_v25, K_main_v24, K_main_v23, K_main_v22, K_main_v21, K_main_v20, K_main_v19, K_main_v8, K_main_cst_1, K_main_cst_2]

variable (z : Vec Ideal S4x2048x8704 .f32)

/-- The reference's turning of queries or keys, head by head. -/
abbrev turn (x : FVec Ideal S4x2048x4x128 .f32) : FVec Ideal S4x2048x4x128 .f32 :=
  let lo : FVec Ideal S4x2048x4x64 .f32 := extractStridedSlice S4x2048x4x64 ![0, 0, 0, 0] x slices_S4x2048x4x128_S4x2048x4x64_0_0_0_0
  let hi : FVec Ideal S4x2048x4x64 .f32 := extractStridedSlice S4x2048x4x64 ![0, 0, 0, 64] x slices_S4x2048x4x128_S4x2048x4x64_0_0_0_64
  concatenate S4x2048x4x128 3
    [⟨S4x2048x4x64, subf (mulf lo (K_main_v38 (F := Ideal))) (mulf hi (K_main_v41 (F := Ideal)))⟩,
      ⟨S4x2048x4x64, addf (mulf hi (K_main_v45 (F := Ideal))) (mulf lo (K_main_v48 (F := Ideal)))⟩]
    concatenates_S4x2048x4x64_S4x2048x4x64_S4x2048x4x128_d3

theorem turn_apply (x : FVec Ideal S4x2048x4x128 .f32) (b h : Fin 4) (t : Fin 2048) (d : Fin 128) :
    turn x (ix4 b t h d) = turned (fun d => x (ix4 b t h d)) t d := by
  unfold turn turned
  pointwise [K_main_v48, K_main_v47, K_main_v45, K_main_v44, K_main_v41, K_main_v40, K_main_v38, K_main_v37, K_main_v34, K_main_v33, K_main_v32, K_main_v31]
  simp only [angle_eq]
  split
  · rfl
  · congr 3
    blk_ext

theorem query_eq (b h : Fin 4) (t : Fin 2048) (d : Fin 128) : A_main_v51 z (ix4 b t h d) = query (rd z) b h t d := by
  refine (turn_apply (A_main_v18 z) b h t d).trans ?_
  unfold query
  congr 1
  funext d
  pointwise [A_main_v18, A_main_v14]

theorem key_eq (b h : Fin 4) (t : Fin 2048) (d : Fin 128) : A_main_v87 z (ix4 b t h d) = key (rd z) b h t d := by
  have e : A_main_v85 z (ix4 b t h d) = turned (fun d => rd z b t ⟨6144 + (h.val * 128 + d.val), by omega⟩) t d := by
    refine (turn_apply (A_main_v52 z) b h t d).trans ?_
    congr 1
    funext d
    pointwise [A_main_v52, A_main_v15]
  unfold key
  rw [← e]
  pointwise [A_main_v87, K_main_v86, K_main_cst_5]

theorem value_eq (b h : Fin 4) (t : Fin 2048) (e : Fin 256) : A_main_v88 z (ix4 b t h e) = value (rd z) b h t e := by
  unfold value
  pointwise [A_main_v88, A_main_v16]

/-! ## The chunks a trip reads -/

theorem chunks_query (k : Fin 16) (b h : Fin 4) (n d : Fin 128) : A_main_v91 z (ix5 k b n h d) = query (rd z) b h (row k n) d := by
  rw [← query_eq]
  pointwise [A_main_v91, A_main_v90]

theorem chunks_key (k : Fin 16) (b h : Fin 4) (n d : Fin 128) : A_main_v93 z (ix5 k b n h d) = key (rd z) b h (row k n) d := by
  rw [← key_eq]
  pointwise [A_main_v93, A_main_v92]

theorem chunks_value (k : Fin 16) (b h : Fin 4) (n : Fin 128) (e : Fin 256) : A_main_v95 z (ix5 k b n h e) = value (rd z) b h (row k n) e := by
  rw [← value_eq]
  pointwise [A_main_v95, A_main_v94]

end Cert.RetRefIdeal.Chunks

end
-- ==== Proof.RetentionRows.lean ====
/- The retention reference after its scan: the stacked outputs laid out as rows, normalised head by head, under the gate. -/
module

public import proofs.«01_k».proof.Proof.RetentionRef

@[expose] public section

set_option maxRecDepth 16384

noncomputable section

namespace Cert.RetRefIdeal.Chunks

open Idealize.ShloMosaic Idealize.ShloMosaic.TcCoe Idealize.SL.Sem
open Cert.RetRefIdeal Cert.RetRefIdeal.Gen Cert.RetRefIdeal.Step
open Cert.Proof.Retention

variable (z : Vec Ideal S4x2048x8704 .f32)

/-- An entry of the result, from the head's 256 outputs at its row. -/
theorem row_of (s : State Ideal) (b : Fin 4) (r : Fin 2048) (l : Fin 1024) :
    R_main_v122 s z (ix3 b r l)
      = z (ix3 b r ⟨7680 + l.val, by omega⟩) * Ideal.div 1 (1 + Ideal.exp (-z (ix3 b r ⟨7680 + l.val, by omega⟩)))
        * normed (fun x => s.main_v97_6 (ix5 ⟨r.val / 128, by omega⟩ b ⟨r.val % 128, by omega⟩ ⟨l.val / 256, by omega⟩ x))
            ⟨l.val % 256, by omega⟩ := by
  unfold normed
  pointwise [R_main_v122]

theorem rows_of (s : State Ideal) (b : Fin 4) (r : Fin 2048) (l : Fin 1024)
    (ho : ∀ x, s.main_v97_6 (ix5 ⟨r.val / 128, by omega⟩ b ⟨r.val % 128, by omega⟩ ⟨l.val / 256, by omega⟩ x)
      = out (rd z) b ⟨l.val / 256, by omega⟩ ⟨r.val / 128, by omega⟩ ⟨r.val % 128, by omega⟩ x) :
    R_main_v122 s z (ix3 b r l)
      = gated (rd z) b ⟨l.val / 256, by omega⟩ ⟨r.val / 128, by omega⟩ ⟨r.val % 128, by omega⟩ ⟨l.val % 256, by omega⟩ := by
  rw [row_of, funext ho]
  unfold gated gate
  have hg : z (ix3 b r ⟨7680 + l.val, by omega⟩)
      = rd z b (row ⟨r.val / 128, by omega⟩ ⟨r.val % 128, by omega⟩) ⟨7680 + (l.val / 256 * 256 + l.val % 256), by omega⟩ := by
    refine congrArg z ?_
    blk_ext
  rw [hg]

end Cert.RetRefIdeal.Chunks

end
-- ==== Proof.RetentionScan.lean ====
/- The retention reference's scan, index by index: its states are the memory of `RetentionMath`, its stacked outputs the
   chunks' rows. -/
module

public import proofs.«01_k».proof.Proof.RetentionRows

@[expose] public section

set_option maxRecDepth 16384

noncomputable section

namespace Cert.RetRefIdeal.Chunks

open Idealize.ShloMosaic Idealize.ShloMosaic.TcCoe Idealize.SL.Sem
open Cert.RetRefIdeal Cert.RetRefIdeal.Gen Cert.RetRefIdeal.Step
open Cert.Proof.Retention

variable (z : Vec Ideal S4x2048x8704 .f32)

/-- A scan's trip changes the memory and the outputs only. -/
theorem states_inputs (n : ℕ) : (states z n).main_v97_0 = A_main_v91 z ∧ (states z n).main_v97_1 = A_main_v93 z
    ∧ (states z n).main_v97_2 = A_main_v95 z := by
  induction n with
  | zero => exact ⟨rfl, rfl, rfl⟩
  | succ n ih => exact ih

/-! ## What a trip reads -/

theorem toInt_trip : ∀ k : Fin 16, (BitVec.ofNat 32 k.val).toInt = (k.val : Int) := by decide

/-- The starts of trip `k`'s chunk, as the program computes them. -/
theorem starts_trip (k : Fin 16) :
    (fun i : Fin 5 => BitVec.toInt ((![constantI S_ 32 (BitVec.ofNat 32 k.val), constantI S_ 32 0#32, constantI S_ 32 0#32, constantI S_ 32 0#32, constantI S_ 32 0#32] : Fin 5 → S_.Idx → BitVec 32) i (Shape.Idx.first h_S_)))
      = ![(k.val : Int), 0, 0, 0, 0] := by
  funext i
  fin_cases i
  exacts [toInt_trip k, rfl, rfl, rfl, rfl]

/-- A chunk starts where it says: none is moved to fit. -/
theorem clamped_trip (c : ℕ) (k : Fin 16) (a : Fin 5) :
    Host.clampedStart ⟨5, ![16, 4, 128, 4, c]⟩ ⟨5, ![1, 4, 128, 4, c]⟩ rfl ![(k.val : Int), 0, 0, 0, 0] a = (![k.val, 0, 0, 0, 0] : Fin 5 → ℕ) a := by
  have hk := k.isLt
  refine Host.clampedStart_of_le _ _ _ _ ?_ ?_
  · fin_cases a <;> rfl
  · fin_cases a
    · show k.val + 1 ≤ 16
      omega
    all_goals exact le_of_eq (Nat.zero_add _)

theorem read_query (k : Fin 16) (s : State Ideal) (b h : Fin 4) (n d : Fin 128) : b5 k.val s (ix4 b n h d) = s.main_v97_0 (ix5 k b n h d) := by
  pointwise [b5, b4, b3, b2, b1, b0]
  simp only [starts_trip, clamped_trip]
  refine congrArg s.main_v97_0 ?_
  blk_ext

theorem read_key (k : Fin 16) (s : State Ideal) (b h : Fin 4) (n d : Fin 128) : b11 k.val s (ix4 b n h d) = s.main_v97_1 (ix5 k b n h d) := by
  pointwise [b11, b10, b9, b8, b7, b6]
  simp only [starts_trip, clamped_trip]
  refine congrArg s.main_v97_1 ?_
  blk_ext

theorem read_value (k : Fin 16) (s : State Ideal) (b h : Fin 4) (n : Fin 128) (e : Fin 256) : b17 k.val s (ix4 b n h e) = s.main_v97_2 (ix5 k b n h e) := by
  pointwise [b17, b16, b15, b14, b13, b12]
  simp only [starts_trip, clamped_trip]
  refine congrArg s.main_v97_2 ?_
  blk_ext

theorem write_out (k : Fin 16) (s : State Ideal) (j : Fin 16) (b h : Fin 4) (n : Fin 128) (e : Fin 256) :
    b88 k.val s (ix5 j b n h e) = if j = k then b74 k.val s (ix4 b n h e) else s.main_v97_6 (ix5 j b n h e) := by
  pointwise [b88, b87, b86, b85, b84, b83]
  simp only [starts_trip, clamped_trip]
  by_cases e' : j = k
  · subst e'
    rw [if_pos rfl]
    exact dif_pos ⟨⟨le_rfl, Nat.lt_succ_self _⟩, Nat.zero_le _, Nat.zero_le _, Nat.zero_le _, Nat.zero_le _⟩
  · rw [if_neg e']
    refine dif_neg fun hh => e' (Fin.ext ?_)
    have h1 : k.val ≤ j.val := hh.1.1
    have h2 : j.val < k.val + 1 := hh.1.2
    omega

/-! ## What a trip leaves -/

theorem trip_query (k : Fin 16) (b h : Fin 4) (n d : Fin 128) : b5 k.val (states z k.val) (ix4 b n h d) = query (rd z) b h (row k n) d := by
  rw [read_query, (states_inputs z k.val).1, chunks_query]

theorem trip_key (k : Fin 16) (b h : Fin 4) (n d : Fin 128) : b11 k.val (states z k.val) (ix4 b n h d) = key (rd z) b h (row k n) d := by
  rw [read_key, (states_inputs z k.val).2.1, chunks_key]

theorem trip_value (k : Fin 16) (b h : Fin 4) (n : Fin 128) (e : Fin 256) : b17 k.val (states z k.val) (ix4 b n h e) = value (rd z) b h (row k n) e := by
  rw [read_value, (states_inputs z k.val).2.2, chunks_value]

theorem trip_memory (k : Fin 16) (b h : Fin 4) (d : Fin 128) (e : Fin 256) :
    b82 k.val (states z k.val) (ix4 b h d e) = (states z k.val).main_v97_5 (ix4 b h d e) * wholeChunk h
      + ∑ n, key (rd z) b h (row k n) d * untilEnd h n * value (rd z) b h (row k n) e := by
  unfold wholeChunk untilEnd
  pointwise [b82, b81, b80, b79, b78, b77, b76, b75, b62, b61, b60, b59, b58, b57, b56, b55, b54, b53, b52, b51, b50, b18]
  simp only [rate_eq, trip_key, trip_value]

theorem decay_eq (j : ℕ) (s : State Ideal) (h : Fin 4) (n m : Fin 128) : b40 j s (ix3 h n m) = decay h n m := by
  unfold decay
  pointwise [b40, b39, b38, b37, b36, b35, b34, b33, b32, b31, b30, b29, b28, b27, b26, b25, b24, b23, b22, b21, b20, b19, b18]
  simp only [rate_eq]

theorem states_memory (n : ℕ) (hn : n ≤ 16) (b h : Fin 4) (d : Fin 128) (e : Fin 256) :
    (states z n).main_v97_5 (ix4 b h d e) = memory (rd z) b h n d e := by
  induction n generalizing d e with
  | zero =>
    show K_main_v89 (F := Ideal) (ix4 b h d e) = 0
    pointwise [K_main_v89, K_main_cst_6]
  | succ n ih =>
    have hk : n < 16 := hn
    rw [memory_succ (rd z) b h ⟨n, hk⟩ d e, ← ih hk.le]
    exact trip_memory z ⟨n, hk⟩ b h d e

theorem trip_out (k : Fin 16) (b h : Fin 4) (n : Fin 128) (e : Fin 256) :
    b74 k.val (states z k.val) (ix4 b n h e) = out (rd z) b h k n e := by
  unfold out sinceStart
  pointwise [b74, b73, b72, b71, b70, b69, b68, b67, b66, b65, b64, b63, b49, b48, b47, b46, b45, b44, b43, b42, b41, b18]
  simp only [rate_eq, trip_query, trip_key, trip_value, decay_eq, states_memory z k.val k.isLt.le]
  congr 1
  · exact Finset.sum_congr rfl fun m _ => mul_comm _ _
  · exact congrArg (· * _) (Finset.sum_congr rfl fun d _ => mul_comm _ _)

/-- The outputs stacked by the first `n` trips stay. -/
theorem states_out (n : ℕ) (hn : n ≤ 16) (j : Fin 16) (hj : j.val < n) (b h : Fin 4) (r : Fin 128) (e : Fin 256) :
    (states z n).main_v97_6 (ix5 j b r h e) = out (rd z) b h j r e := by
  induction n with
  | zero => exact absurd hj (Nat.not_lt_zero _)
  | succ n ih =>
    have hk : n < 16 := hn
    refine (write_out ⟨n, hk⟩ (states z n) j b h r e).trans ?_
    split
    · next e' => subst e'; exact trip_out z _ b h r e
    · next ne => exact ih hk.le (lt_of_le_of_ne (Nat.le_of_lt_succ hj) fun e' => ne (Fin.ext e'))

/-! ## The results -/

theorem final_memory (b h : Fin 4) (d : Fin 128) (e : Fin 256) :
    (states z 16).main_v97_5 (ix4 b h d e) = memory (rd z) b h 16 d e := states_memory z 16 le_rfl b h d e

theorem final_rows (b : Fin 4) (r : Fin 2048) (l : Fin 1024) :
    R_main_v122 (states z 16) z (ix3 b r l)
      = gated (rd z) b ⟨l.val / 256, by omega⟩ ⟨r.val / 128, by omega⟩ ⟨r.val % 128, by omega⟩ ⟨l.val % 256, by omega⟩ :=
  rows_of z (states z 16) b r l fun x => states_out z 16 le_rfl _ (by show r.val / 128 < 16; omega) _ _ _ _

end Cert.RetRefIdeal.Chunks

end
-- ==== Proof.Retention.lean ====
/- The retention: what its kernel leaves in its two result arrays is what the reference's scan gives. Every grid point
   works on one head of one batch: it leaves the head's 256 columns of the gated rows and the head's last memory. -/
module

public import proofs.«01_k».proof.Proof.RetentionBlocks
public import proofs.«01_k».proof.Proof.RetentionScan
public import Idealize.ShloMosaic.Lib.Claim
public import proofs.«01_k».proof.Defs

@[expose] public section

set_option maxRecDepth 16384

noncomputable section

namespace Cert.RetIdeal.Scan

open Cert.RetIdeal Cert.RetIdeal.Gen
open Idealize.ShloMosaic Idealize.ShloMosaic.TcCoe Idealize.SL.Sem
open Cert.Proof.Retention

variable (m : (ℓ : Loc nD τ sig) → Buf (Elt Ideal) ℓ)

/-- The argument as the launch finds it. -/
abbrev argArray (c : Dev nD) : Vec Ideal S4x2048x8704 .f32 := m ((c : Thread nD τ).loc main_arg0)

/-- The reference's rows on the run's argument, … -/
def rowsOf (c : Dev nD) : FVec Ideal S4x2048x1024 .bf16 :=
  Cert.RetRefIdeal.Step.R_main_v122 (Cert.RetRefIdeal.Chunks.states (argArray m c) 16) (argArray m c)

/-- … and its last memory. -/
def memoryOf (c : Dev nD) : FVec Ideal S4x4x128x256 .f32 :=
  (Cert.RetRefIdeal.Chunks.states (argArray m c) 16).main_v97_5

/-- What a point leaves of the rows is the reference there, … -/
theorem point_rows (c : Dev nD) (t : Fin cfg0.N) (y : S1x2048x256.Idx) (j : S4x2048x1024.Idx)
    (h0 : (j 0).val = t.val / 4) (h1 : (j 1).val = (y 1).val) (h2 : (j 2).val = t.val % 4 * 256 + (y 2).val) :
    outBlock (iblk m c 0 t) (iblk m c 1 t) (iblk m c 2 t) (iblk m c 3 t) (iblk m c 4 t) (iblk m c 5 t) (iblk m c 6 t)
      (iblk m c 7 t) (iblk m c 8 t) (iblk m c 9 t) (iblk m c 10 t) y = rowsOf m c j := by
  have hy : y = ix3 0 (y 1) (y 2) := by
    funext a; fin_cases a
    · exact Subsingleton.elim (α := Fin 1) _ _
    · rfl
    · rfl
  have hy2 : (y 2).val < 256 := (y 2).isLt
  have hj : j = ix3 (j 0) (j 1) (j 2) := by
    funext a; fin_cases a <;> rfl
  rw [hy, hj]
  refine (outBlock_at (blocks m c t) (y 1) (y 2)).trans ?_
  refine Eq.trans ?_ (Cert.RetRefIdeal.Chunks.final_rows (argArray m c) (j 0) (j 1) (j 2)).symm
  have e0 : batch t = j 0 := Fin.ext h0.symm
  have e1 : y 1 = j 1 := Fin.ext h1.symm
  have eh : head t = ⟨(j 2).val / 256, by have := (j 2).isLt; change _ < 1024 at this; omega⟩ :=
    Fin.ext (by show t.val % 4 = (j 2).val / 256; omega)
  have ee : y 2 = ⟨(j 2).val % 256, Nat.mod_lt _ (by decide)⟩ := Fin.ext (by show (y 2).val = (j 2).val % 256; omega)
  rw [e0, eh, ee]
  simp only [e1]
  rfl

/-- … and so is what it leaves of the memory. -/
theorem point_memory (c : Dev nD) (t : Fin cfg0.N) (y : S1x1x128x256.Idx) (j : S4x4x128x256.Idx)
    (h0 : (j 0).val = t.val / 4) (h1 : (j 1).val = t.val % 4) (h2 : (j 2).val = (y 2).val) (h3 : (j 3).val = (y 3).val) :
    stateBlock (iblk m c 1 t) (iblk m c 2 t) (iblk m c 4 t) (iblk m c 5 t) (iblk m c 8 t) (iblk m c 9 t) (iblk m c 10 t) y
      = memoryOf m c j := by
  have hy : y = ix4 0 0 (y 2) (y 3) := by
    funext a; fin_cases a
    · exact Subsingleton.elim (α := Fin 1) _ _
    · exact Subsingleton.elim (α := Fin 1) _ _
    · rfl
    · rfl
  have hj : j = ix4 (batch t) (head t) (y 2) (y 3) := by
    funext a; fin_cases a
    exacts [Fin.ext h0, Fin.ext h1, Fin.ext h2, Fin.ext h3]
  rw [hy, hj]
  exact (stateBlock_at (blocks m c t) (y 2) (y 3)).trans
    (Cert.RetRefIdeal.Chunks.final_memory (argArray m c) (batch t) (head t) (y 2) (y 3)).symm

/-- The rows' array after the run is the reference's, … -/
theorem final_rows (c : Dev nD) : (dats m 0 c).arrAt 11 (cfgs 0).N = rowsOf m c := by
  refine (dats m 0 c).arrAt_eq_of_covers 11 _ (by decide +kernel) fun t _ y => ?_
  blk_simp
  rw [after0_11]
  exact point_rows m c t y _ (by blk_simp [idx t]) (by blk_simp [idx t]) (by blk_simp [idx t])

/-- … and so is the memory's. -/
theorem final_memory (c : Dev nD) : (dats m 0 c).arrAt 12 (cfgs 0).N = memoryOf m c := by
  refine (dats m 0 c).arrAt_eq_of_covers 12 _ (by decide +kernel) fun t _ y => ?_
  blk_simp
  rw [after0_12]
  exact point_memory m c t y _ (by blk_simp [idx t]) (by blk_simp [idx t]) (by blk_simp [idx t]) (by blk_simp [idx t])

/-- The kernel ends with the reference's two results, and its argument as it was. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v73_0) = rowsOf m c
      ∧ r.2.mem ((c.tc : Thread nD τ).loc main_v73_1) = memoryOf m c
      ∧ r.2.mem ((c.tc : Thread nD τ).loc main_arg0) = m ((c.tc : Thread nD τ).loc main_arg0) :=
  (θ_run defs _ _).mono (fun r h c => ⟨((h c).1 11).trans (final_rows m c), ((h c).1 12).trans (final_memory m c),
    ((h c).1 3).trans (((dats m 0 c).arrAt_in 3 rfl _).trans ((A_eq m c 3).trans (V_main_arg0 m c)))⟩) (run_main m ρ)

/-- The reference's rows, from the same argument by another name, … -/
theorem rows_agree (c : Dev nD) {x : Vec Ideal S4x2048x8704 .f32} (h : x = argArray m c) :
    Cert.RetRefIdeal.Step.R_main_v122 (Cert.RetRefIdeal.Chunks.states x 16) x = rowsOf m c := by
  subst h
  rw [rowsOf]

/-- … and its last memory. -/
theorem memory_agrees (c : Dev nD) {x : Vec Ideal S4x2048x8704 .f32} (h : x = argArray m c) :
    (Cert.RetRefIdeal.Chunks.states x 16).main_v97_5 = memoryOf m c := by
  subst h
  rw [memoryOf]

end Cert.RetIdeal.Scan

namespace Cert.Proof

open Idealize.ShloMosaic Idealize.ShloMosaic.TcCoe Idealize.SL.Sem

/-- The retention's kernel and its reference end with the same arrays. -/
theorem retention : Cert.algebraic_RetIdeal_RetRefIdeal (hRetIdeal := Cert.RetIdeal.Gen.facts)
    (hRetRefIdeal := Cert.RetRefIdeal.Gen.facts) := by
  intro m g m' g' _ hagree
  refine ⟨Cert.RetIdeal.Scan.rowsOf m, Cert.RetIdeal.Scan.memoryOf m, Cert.RetIdeal.Scan.run m g, ?_⟩
  refine (θ_run Cert.RetRefIdeal.defs _ _).mono (fun r h c => ?_) (Cert.RetRefIdeal.Chunks.run m' g')
  exact ⟨(h c).1.trans (Cert.RetIdeal.Scan.rows_agree m c (hagree c)),
    (h c).2.1.trans (Cert.RetIdeal.Scan.memory_agrees m c (hagree c)), (h c).2.2⟩

end Cert.Proof

end
-- ==== Proof.Norm.lean ====
/- The layer norm of one row, as the mathematics both sides of the later claims compute. -/
module

public import Idealize.ShloMosaic.Lib.Pipeline.ValueKit

@[expose] public section

noncomputable section

namespace Cert.Proof

open Idealize.ShloMosaic

/-- The mean of a row of 2048 numbers. -/
abbrev rowMean (p : Fin 2048 → Ideal .f32) : Ideal .f32 :=
  Ideal.div (∑ x, p x) (Ideal.ofBits .f32 0x45000000#32)

/-- The row with its mean taken off, over the root of its variance plus a small number. -/
abbrev rowNorm (p : Fin 2048 → Ideal .f32) (l : Fin 2048) : Ideal .f32 :=
  (p l - rowMean p)
    * Ideal.rsqrt (Ideal.div (∑ x, (p x - rowMean p) * (p x - rowMean p)) (Ideal.ofBits .f32 0x45000000#32)
        + Ideal.ofBits .f32 0x3727C5AC#32)

end Cert.Proof

end
-- ==== Proof.Output.lean ====
/- The output projection: what its kernel leaves in its two result arrays is the reference's.
   Every grid point works on one block of 512 rows of a batch. It multiplies the three mixers' columns by their rows of
   the weights, one product each, adds the residual, normalises the rows (the first result), and scales and shifts them
   (the second). -/
module

public import proofs.«01_k».proof.Proof.Gen.OutpIdeal.Value
public import proofs.«01_k».proof.Proof.Gen.OutpRefIdeal.Run
public import proofs.«01_k».proof.Proof.Norm
public import Idealize.ShloMosaic.Lib.Pipeline.ValueKit
public import Idealize.ShloMosaic.Lib.Claim
public import proofs.«01_k».proof.Defs

@[expose] public section

set_option maxRecDepth 16384

noncomputable section

/-! ## The reference, in named pieces -/

namespace Cert.OutpRefIdeal.Value

open Cert.OutpRefIdeal Cert.OutpRefIdeal.Gen Idealize.ShloMosaic Idealize.ShloMosaic.TcCoe Idealize.SL.Sem

variable (m : (ℓ : Loc nD τ sig) → Buf (Elt Ideal) ℓ)

/-- The reference's layer norm over the last axis, with one gain and one bias per column. -/
abbrev refNorm (p : FVec Ideal S4x2048x2048 .f32) (g b : FVec Ideal S4x2048 .f32) : FVec Ideal S4x2048x2048 .f32 :=
  let mean : FVec Ideal S4x2048x1 .f32 := Host.divf
    (broadcastInDim S4x2048x1 ![0, 1] bcast_S4x2048_S4x2048x1_0_1
      (Host.reduceAdd p (constant S_ .f32 0x00000000#32) reducesTo_S4x2048x2048_S4x2048_d2 h_S_))
    (broadcastInDim S4x2048x1 ![] bcast_S_S4x2048x1 (constant S_ .f32 0x45000000#32))
  let q : FVec Ideal S4x2048x2048 .f32 := subf p (broadcastInDim S4x2048x2048 ![0, 1, 2] bcast_S4x2048x1_S4x2048x2048_0_1_2 mean)
  let var : FVec Ideal S4x2048x1 .f32 := Host.divf
    (broadcastInDim S4x2048x1 ![0, 1] bcast_S4x2048_S4x2048x1_0_1
      (Host.reduceAdd (mulf q q) (constant S_ .f32 0x00000000#32) reducesTo_S4x2048x2048_S4x2048_d2 h_S_))
    (broadcastInDim S4x2048x1 ![] bcast_S_S4x2048x1 (constant S_ .f32 0x45000000#32))
  let root : FVec Ideal S4x2048x1 .f32 :=
    Host.rsqrt (addf var (broadcastInDim S4x2048x1 ![] bcast_S_S4x2048x1 (constant S_ .f32 0x3727C5AC#32)))
  addf
    (mulf (mulf q (broadcastInDim S4x2048x2048 ![0, 1, 2] bcast_S4x2048x1_S4x2048x2048_0_1_2 root))
      (broadcastInDim S4x2048x2048 ![0, 1, 2] bcast_S1x1x2048_S4x2048x2048_0_1_2
        (broadcastInDim S1x1x2048 ![2] bcast_S2048_S1x1x2048_2
          (shapeCast S2048 (extractStridedSlice S1x2048 ![0, 0] g slices_S4x2048_S1x2048_0_0) shapeCasts_S1x2048_S2048))))
    (broadcastInDim S4x2048x2048 ![0, 1, 2] bcast_S1x1x2048_S4x2048x2048_0_1_2
      (broadcastInDim S1x1x2048 ![2] bcast_S2048_S1x1x2048_2
        (shapeCast S2048 (extractStridedSlice S1x2048 ![0, 0] b slices_S4x2048_S1x2048_0_0) shapeCasts_S1x2048_S2048)))

/-- The three mixers' outputs side by side. -/
abbrev refCat (ya yb : FVec Ideal S4x2048x512 .bf16) (yc : FVec Ideal S4x2048x1024 .bf16) : FVec Ideal S4x2048x2048 .bf16 :=
  concatenate S4x2048x2048 2 [⟨S4x2048x512, ya⟩, ⟨S4x2048x512, yb⟩, ⟨S4x2048x1024, yc⟩]
    concatenates_S4x2048x512_S4x2048x512_S4x2048x1024_S4x2048x2048_d2

/-- The rows that are normalised: the residual stream, scaled, plus the gated product. -/
abbrev refPre (ya yb : FVec Ideal S4x2048x512 .bf16) (yc : FVec Ideal S4x2048x1024 .bf16) (w : FVec Ideal S4x2048x2048 .f32)
    (x : FVec Ideal S4x2048x2048 .f32) (gate : FVec Ideal S4x2048 .f32) : FVec Ideal S4x2048x2048 .f32 :=
  addf (mulf (broadcastInDim S4x2048x2048 ![] bcast_S_S4x2048x2048 (constant S_ .f32 0x3FD744FD#32)) x)
    (mulf (broadcastInDim S4x2048x2048 ![0, 1, 2] bcast_S4x1x2048_S4x2048x2048_0_1_2
        (broadcastInDim S4x1x2048 ![0, 2] bcast_S4x2048_S4x1x2048_0_2 gate))
      (Host.dotGeneral dot_S4x2048x2048_S2048x2048_S4x2048x2048_2_0_01_1_n_n none (extf .f32 (refCat ya yb yc) bitsLt_bf16_f32)
        (shapeCast S2048x2048 (extractStridedSlice S1x2048x2048 ![0, 0, 0] w slices_S4x2048x2048_S1x2048x2048_0_0_0)
          shapeCasts_S1x2048x2048_S2048x2048)))

/-- The second result: the first, scaled by one plus `sc` and shifted by `sh`. -/
abbrev refShift (n : FVec Ideal S4x2048x2048 .f32) (sc sh : FVec Ideal S4x2048 .f32) : FVec Ideal S4x2048x2048 .bf16 :=
  truncf .bf16
    (addf (mulf n (broadcastInDim S4x2048x2048 ![0, 1, 2] bcast_S4x1x2048_S4x2048x2048_0_1_2
        (addf (broadcastInDim S4x1x2048 ![] bcast_S_S4x1x2048 (constant S_ .f32 0x3F800000#32))
          (broadcastInDim S4x1x2048 ![0, 2] bcast_S4x2048_S4x1x2048_0_2 sc))))
      (broadcastInDim S4x2048x2048 ![0, 1, 2] bcast_S4x1x2048_S4x2048x2048_0_1_2
        (broadcastInDim S4x1x2048 ![0, 2] bcast_S4x2048_S4x1x2048_0_2 sh))) bitsLt_bf16_f32

/-- The reference's first result, … -/
theorem res_norm (c : Dev nD) : res_main_v38 m c
    = refNorm (refPre (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)))
      (m ((c.tc : Thread nD τ).loc main_arg8)) (m ((c.tc : Thread nD τ).loc main_arg9)) := by
  unfold res_main_v38; rfl

/-- … and its second. -/
theorem res_shift (c : Dev nD) : res_main_v47 m c
    = refShift (refNorm (refPre (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)))
      (m ((c.tc : Thread nD τ).loc main_arg8)) (m ((c.tc : Thread nD τ).loc main_arg9)))
      (m ((c.tc : Thread nD τ).loc main_arg6)) (m ((c.tc : Thread nD τ).loc main_arg7)) := by
  unfold res_main_v47; rfl

/-- The reference's norm at an index, by the row's own norm. -/
theorem refNorm_at (p : FVec Ideal S4x2048x2048 .f32) (g b : FVec Ideal S4x2048 .f32) (i : Fin 4) (r l : Fin 2048) :
    refNorm p g b (ix3 i r l) = Cert.Proof.rowNorm (fun x => p (ix3 i r x)) l * g (ix2 0 l) + b (ix2 0 l) := by
  pointwise [refNorm]

/-- The scaled and shifted rows at an index. -/
theorem refShift_at (n : FVec Ideal S4x2048x2048 .f32) (sc sh : FVec Ideal S4x2048 .f32) (i : Fin 4) (r l : Fin 2048) :
    refShift n sc sh (ix3 i r l) = n (ix3 i r l) * (Ideal.ofBits .f32 0x3F800000#32 + sc (ix2 i l)) + sh (ix2 i l) := by
  pointwise [refShift]

/-- A sum over 2048 rows of weights, by the three mixers' rows. -/
theorem sum_mixers (f : Fin 2048 → Ideal .f32) :
    ∑ k, f k = (∑ k : Fin 512, f ⟨k.val, by omega⟩ + ∑ k : Fin 512, f ⟨512 + k.val, by omega⟩) + ∑ k : Fin 1024, f ⟨1024 + k.val, by omega⟩ := by
  refine (Fin.sum_univ_add (a := 512 + 512) (b := 1024) f).trans (congrArg (· + _) ?_)
  exact Fin.sum_univ_add (a := 512) (b := 512) _

/-- The normalised rows at an index: three products, one for each mixer. -/
theorem refPre_at (ya yb : FVec Ideal S4x2048x512 .bf16) (yc : FVec Ideal S4x2048x1024 .bf16) (w : FVec Ideal S4x2048x2048 .f32)
    (x : FVec Ideal S4x2048x2048 .f32) (gate : FVec Ideal S4x2048 .f32) (i : Fin 4) (r l : Fin 2048) :
    refPre ya yb yc w x gate (ix3 i r l)
      = Ideal.ofBits .f32 0x3FD744FD#32 * x (ix3 i r l) + gate (ix2 i l)
          * ((∑ k : Fin 512, ya (ix3 i r k) * w (ix3 0 ⟨k.val, by omega⟩ l) + ∑ k : Fin 512, yb (ix3 i r k) * w (ix3 0 ⟨512 + k.val, by omega⟩ l))
            + ∑ k : Fin 1024, yc (ix3 i r k) * w (ix3 0 ⟨1024 + k.val, by omega⟩ l)) := by
  have h : refPre ya yb yc w x gate (ix3 i r l)
      = Ideal.ofBits .f32 0x3FD744FD#32 * x (ix3 i r l) + gate (ix2 i l) * ∑ k : Fin 2048, refCat ya yb yc (ix3 i r k) * w (ix3 0 k l) := by
    pointwise [refPre]
  rw [h, sum_mixers]
  pointwise [refCat]
  blk_point []
  all_goals exfalso; omega

end Cert.OutpRefIdeal.Value

/-! ## The kernel -/

namespace Cert.OutpIdeal.Value

open Cert.OutpIdeal Cert.OutpIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point works on: the batch and the block of rows. -/
theorem idx_out : ∀ t : Fin cfg0.N, win0_0.index t = ![t.val / 4, t.val % 4, 0] ∧ win0_1.index t = ![t.val / 4, t.val % 4, 0]
    ∧ win0_2.index t = ![t.val / 4, t.val % 4, 0] ∧ win0_3.index t = ![0, 0, 0] ∧ win0_4.index t = ![t.val / 4, t.val % 4, 0]
    ∧ win0_5.index t = ![t.val / 4, 0, 0] ∧ win0_6.index t = ![t.val / 4, 0, 0] ∧ win0_7.index t = ![t.val / 4, 0, 0]
    ∧ win0_8.index t = ![0, 0, 0] ∧ win0_9.index t = ![0, 0, 0] ∧ win0_10.index t = ![t.val / 4, t.val % 4, 0]
    ∧ win0_11.index t = ![t.val / 4, t.val % 4, 0] :=
  (by decide +kernel : ∀ t : Fin grid0.N, _)

/-- The kernel's norm of its rows at an index, by the row's own norm. -/
theorem norm_at (p : FVec Ideal S512x2048 .f32) (g b : FVec Ideal S1x1x2048 .f32) (r : Fin 512) (l : Fin 2048) :
    k0_pay3 p g b (ix2 r l) = Cert.Proof.rowNorm (fun x => p (ix2 r x)) l * g (ix3 0 0 l) + b (ix3 0 0 l) := by
  pointwise [k0_pay3]

/-- What a point stores of the first result, … -/
theorem out_norm (p : FVec Ideal S512x2048 .f32) (g b : FVec Ideal S1x1x2048 .f32) (r : Fin 512) (l : Fin 2048) :
    k0_pay4 p g b (ix3 0 r l) = k0_pay3 p g b (ix2 r l) := by
  pointwise [k0_pay4]

/-- … and of the second. -/
theorem out_shift (p : FVec Ideal S512x2048 .f32) (g b sc sh : FVec Ideal S1x1x2048 .f32) (r : Fin 512) (l : Fin 2048) :
    k0_pay1 (k0_pay5 p g b sc sh) (ix3 0 r l)
      = k0_pay3 p g b (ix2 r l) * (Ideal.ofBits .f32 0x3F800000#32 + sc (ix3 0 0 l)) + sh (ix3 0 0 l) := by
  pointwise [k0_pay1, k0_pay5]

/-- The rows that a point normalises. -/
abbrev rows (c : Dev nD) (t : Fin cfg0.N) : FVec Ideal S512x2048 .f32 :=
  k0_pay6 (iblk m c 0 t) (iblk m c 1 t) (iblk m c 2 t) (iblk m c 3 t) (iblk m c 4 t) (iblk m c 5 t) (iblk m c 6 t) (iblk m c 7 t)
    (iblk m c 8 t) (iblk m c 9 t)

/-- The gains' block at a point, the biases', the scales' and the shifts'. -/
abbrev gains (c : Dev nD) (t : Fin cfg0.N) : FVec Ideal S1x1x2048 .f32 := iblk m c 8 t
@[inherit_doc gains] abbrev biases (c : Dev nD) (t : Fin cfg0.N) : FVec Ideal S1x1x2048 .f32 := iblk m c 9 t
@[inherit_doc gains] abbrev scales (c : Dev nD) (t : Fin cfg0.N) : FVec Ideal S1x1x2048 .f32 := iblk m c 6 t
@[inherit_doc gains] abbrev shifts (c : Dev nD) (t : Fin cfg0.N) : FVec Ideal S1x1x2048 .f32 := iblk m c 7 t

/-- The reference's rows on the run's arguments. -/
abbrev preOf (c : Dev nD) : FVec Ideal S4x2048x2048 .f32 :=
  Cert.OutpRefIdeal.Value.refPre (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The reference's first result on the run's arguments, … -/
abbrev normOf (c : Dev nD) : FVec Ideal S4x2048x2048 .f32 :=
  Cert.OutpRefIdeal.Value.refNorm (preOf m c) (m ((c : Thread nD τ).loc main_arg8)) (m ((c : Thread nD τ).loc main_arg9))

/-- … and its second. -/
abbrev shiftOf (c : Dev nD) : FVec Ideal S4x2048x2048 .bf16 :=
  Cert.OutpRefIdeal.Value.refShift (normOf m c) (m ((c : Thread nD τ).loc main_arg6)) (m ((c : Thread nD τ).loc main_arg7))

/-- The rows that a point normalises are the reference's. -/
theorem rows_at (c : Dev nD) (t : Fin cfg0.N) (r : Fin 512) (l : Fin 2048) (i : Fin 4) (r' : Fin 2048)
    (hi : i.val = t.val / 4) (hr : r'.val = t.val % 4 * 512 + r.val) : rows m c t (ix2 r l) = preOf m c (ix3 i r' l) := by
  refine Eq.trans ?_ (Cert.OutpRefIdeal.Value.refPre_at _ _ _ _ _ _ i r' l).symm
  pointwise [rows, k0_pay6, k0_pay2]
  blk_point [iblk, V, idx_out t, hi, hr]

/-- A point's normalised rows are the reference's first result there. -/
theorem normed (c : Dev nD) (t : Fin cfg0.N) (r : Fin 512) (l : Fin 2048) (i : Fin 4) (r' : Fin 2048)
    (hi : i.val = t.val / 4) (hr : r'.val = t.val % 4 * 512 + r.val) :
    k0_pay3 (rows m c t) (gains m c t) (biases m c t) (ix2 r l) = normOf m c (ix3 i r' l) := by
  rw [norm_at]
  refine Eq.trans ?_ (Cert.OutpRefIdeal.Value.refNorm_at _ _ _ i r' l).symm
  have hp : (fun x' : Fin 2048 => rows m c t (ix2 r x')) = fun x' : Fin 2048 => preOf m c (ix3 i r' x') :=
    funext fun x' => rows_at m c t r x' i r' hi hr
  refine congrArg₂ (· + ·) (congrArg₂ (· * ·) (congrArg (fun p => Cert.Proof.rowNorm p l) hp) ?_) ?_
  all_goals blk_point [gains, biases, iblk, V, idx_out t, hi, hr]

/-- An index of a block of 512 rows by its row and column. -/
theorem block_ix (y : S1x512x2048.Idx) : y = ix3 0 (y 1) (y 2) := by
  funext a; fin_cases a
  · exact Subsingleton.elim (α := Fin 1) _ _
  · rfl
  · rfl

/-- An index of a result array by its batch and row and a block's column. -/
theorem array_ix (j : S4x2048x2048.Idx) (l : Fin 2048) (h : (j 2).val = l.val) : j = ix3 (j 0) (j 1) l := by
  funext a; fin_cases a
  · rfl
  · rfl
  · exact Fin.ext h

/-- What a point leaves of the first result is the reference there, … -/
theorem point_norm (c : Dev nD) (t : Fin cfg0.N) (y : S1x512x2048.Idx) (j : S4x2048x2048.Idx)
    (h0 : (j 0).val = t.val / 4) (h1 : (j 1).val = t.val % 4 * 512 + (y 1).val) (h2 : (j 2).val = (y 2).val) :
    k0_pay4 (rows m c t) (gains m c t) (biases m c t) y = normOf m c j := by
  rw [block_ix y, array_ix j (y 2) h2]
  exact (out_norm _ _ _ (y 1) (y 2)).trans (normed m c t (y 1) (y 2) (j 0) (j 1) h0 h1)

/-- … and of the second. -/
theorem point_shift (c : Dev nD) (t : Fin cfg0.N) (y : S1x512x2048.Idx) (j : S4x2048x2048.Idx)
    (h0 : (j 0).val = t.val / 4) (h1 : (j 1).val = t.val % 4 * 512 + (y 1).val) (h2 : (j 2).val = (y 2).val) :
    k0_pay1 (k0_pay5 (rows m c t) (gains m c t) (biases m c t) (scales m c t) (shifts m c t)) y = shiftOf m c j := by
  rw [block_ix y, array_ix j (y 2) h2]
  refine (out_shift _ _ _ _ _ (y 1) (y 2)).trans ?_
  refine Eq.trans ?_ (Cert.OutpRefIdeal.Value.refShift_at _ _ _ (j 0) (j 1) (y 2)).symm
  refine congrArg₂ (· + ·) (congrArg₂ (· * ·) (normed m c t (y 1) (y 2) (j 0) (j 1) h0 h1) (congrArg₂ (· + ·) rfl ?_)) ?_
  all_goals blk_point [scales, shifts, iblk, V, idx_out t, h0, h1]

/-- The first result array after the run is the reference's, … -/
theorem final_norm (c : Dev nD) : (dats m 0 c).arrAt 10 (cfgs 0).N = normOf m c := by
  refine (dats m 0 c).arrAt_eq_of_covers 10 _ (by decide +kernel) fun t _ y => ?_
  blk_simp
  rw [after0_10]
  frame_out
  exact point_norm m c t y _ (by blk_simp [idx_out t]) (by blk_simp [idx_out t]) (by blk_simp [idx_out t])

/-- … and so is the second. -/
theorem final_shift (c : Dev nD) : (dats m 0 c).arrAt 11 (cfgs 0).N = shiftOf m c := by
  refine (dats m 0 c).arrAt_eq_of_covers 11 _ (by decide +kernel) fun t _ y => ?_
  blk_simp
  rw [after0_11]
  frame_out
  exact point_shift m c t y _ (by blk_simp [idx_out t]) (by blk_simp [idx_out t]) (by blk_simp [idx_out t])

end Cert.OutpIdeal.Value

namespace Cert.Proof

open Idealize.ShloMosaic Idealize.ShloMosaic.TcCoe Idealize.SL.Sem

/-- The output projection's kernel and its reference end with the same arrays. -/
theorem output : Cert.algebraic_OutpIdeal_OutpRefIdeal (hOutpIdeal := Cert.OutpIdeal.Gen.facts)
    (hOutpRefIdeal := Cert.OutpRefIdeal.Gen.facts) := by
  pair_intro
  · run_from Cert.OutpIdeal.Gen.run_main m g
  · run_from Cert.OutpRefIdeal.Value.run m' g'
    all_goals obtain ⟨e0, e1, e2, e3, e4, e5, e6, e7, e8, e9⟩ := hagree c
    · rw [Cert.OutpRefIdeal.Value.res_norm m' c, e0, e1, e2, e3, e4, e5, e8, e9]
      exact (Cert.OutpIdeal.Value.final_norm m c).symm
    · rw [Cert.OutpRefIdeal.Value.res_shift m' c, e0, e1, e2, e3, e4, e5, e6, e7, e8, e9]
      exact (Cert.OutpIdeal.Value.final_shift m c).symm

end Cert.Proof

end
-- ==== Proof.Ffn.lean ====
/- The feed-forward part: what its kernel leaves in the result array is the reference's layer norm.
   The kernel visits, for every block of 1024 rows, eight blocks of 1024 hidden columns. The first point of a block of
   rows clears the result block, every point adds its hidden columns' share of the second product, in two halves of the
   result's columns, and the last point adds the residual and normalises the rows. -/
module

public import proofs.«01_k».proof.Proof.Gen.FfnIdeal.Value
public import proofs.«01_k».proof.Proof.Gen.FfnRefIdeal.Run
public import proofs.«01_k».proof.Proof.Norm
public import Idealize.ShloMosaic.Lib.Pipeline.ValueKit
public import Idealize.ShloMosaic.Lib.Pipeline.ReadBack
public import Idealize.ShloMosaic.Lib.Claim
public import proofs.«01_k».proof.Defs

@[expose] public section

set_option maxRecDepth 16384

noncomputable section

/-! ## The reference, in named pieces -/

namespace Cert.FfnRefIdeal.Value

open Cert.FfnRefIdeal Cert.FfnRefIdeal.Gen Idealize.ShloMosaic Idealize.ShloMosaic.TcCoe Idealize.SL.Sem

variable (m : (ℓ : Loc nD τ sig) → Buf (Elt Ideal) ℓ)

/-- The reference's layer norm over the last axis, with one gain and one bias per column. -/
abbrev refNorm (p : FVec Ideal S4x2048x2048 .f32) (g b : FVec Ideal S4x2048 .f32) : FVec Ideal S4x2048x2048 .f32 :=
  let mean : FVec Ideal S4x2048x1 .f32 := Host.divf
    (broadcastInDim S4x2048x1 ![0, 1] bcast_S4x2048_S4x2048x1_0_1
      (Host.reduceAdd p (constant S_ .f32 0x00000000#32) reducesTo_S4x2048x2048_S4x2048_d2 h_S_))
    (broadcastInDim S4x2048x1 ![] bcast_S_S4x2048x1 (constant S_ .f32 0x45000000#32))
  let q : FVec Ideal S4x2048x2048 .f32 := subf p (broadcastInDim S4x2048x2048 ![0, 1, 2] bcast_S4x2048x1_S4x2048x2048_0_1_2 mean)
  let var : FVec Ideal S4x2048x1 .f32 := Host.divf
    (broadcastInDim S4x2048x1 ![0, 1] bcast_S4x2048_S4x2048x1_0_1
      (Host.reduceAdd (mulf q q) (constant S_ .f32 0x00000000#32) reducesTo_S4x2048x2048_S4x2048_d2 h_S_))
    (broadcastInDim S4x2048x1 ![] bcast_S_S4x2048x1 (constant S_ .f32 0x45000000#32))
  let root : FVec Ideal S4x2048x1 .f32 :=
    Host.rsqrt (addf var (broadcastInDim S4x2048x1 ![] bcast_S_S4x2048x1 (constant S_ .f32 0x3727C5AC#32)))
  addf
    (mulf (mulf q (broadcastInDim S4x2048x2048 ![0, 1, 2] bcast_S4x2048x1_S4x2048x2048_0_1_2 root))
      (broadcastInDim S4x2048x2048 ![0, 1, 2] bcast_S1x1x2048_S4x2048x2048_0_1_2
        (broadcastInDim S1x1x2048 ![2] bcast_S2048_S1x1x2048_2
          (shapeCast S2048 (extractStridedSlice S1x2048 ![0, 0] g slices_S4x2048_S1x2048_0_0) shapeCasts_S1x2048_S2048))))
    (broadcastInDim S4x2048x2048 ![0, 1, 2] bcast_S1x1x2048_S4x2048x2048_0_1_2
      (broadcastInDim S1x1x2048 ![2] bcast_S2048_S1x1x2048_2
        (shapeCast S2048 (extractStridedSlice S1x2048 ![0, 0] b slices_S4x2048_S1x2048_0_0) shapeCasts_S1x2048_S2048)))

/-- The first product, rectified and squared. -/
abbrev refUp (h : FVec Ideal S4x2048x2048 .bf16) (wu : FVec Ideal S4x2048x8192 .f32) : FVec Ideal S4x2048x8192 .f32 :=
  let u : FVec Ideal S4x2048x8192 .f32 := maximumf
    (Host.dotGeneral dot_S4x2048x2048_S2048x8192_S4x2048x8192_2_0_01_1_n_n none (extf .f32 h bitsLt_bf16_f32)
      (shapeCast S2048x8192 (extractStridedSlice S1x2048x8192 ![0, 0, 0] wu slices_S4x2048x8192_S1x2048x8192_0_0_0)
        shapeCasts_S1x2048x8192_S2048x8192))
    (broadcastInDim S4x2048x8192 ![] bcast_S_S4x2048x8192 (constant S_ .f32 0x00000000#32))
  mulf u u

/-- The second product. -/
abbrev refDown (h : FVec Ideal S4x2048x2048 .bf16) (wu : FVec Ideal S4x2048x8192 .f32) (wd : FVec Ideal S4x8192x2048 .f32) :
    FVec Ideal S4x2048x2048 .f32 :=
  Host.dotGeneral dot_S4x2048x8192_S8192x2048_S4x2048x2048_2_0_01_1_n_n none (refUp h wu)
    (shapeCast S8192x2048 (extractStridedSlice S1x8192x2048 ![0, 0, 0] wd slices_S4x8192x2048_S1x8192x2048_0_0_0)
      shapeCasts_S1x8192x2048_S8192x2048)

/-- The rows that are normalised: the residual stream, scaled, plus the gated second product. -/
abbrev refPre (h : FVec Ideal S4x2048x2048 .bf16) (wu : FVec Ideal S4x2048x8192 .f32) (wd : FVec Ideal S4x8192x2048 .f32)
    (x : FVec Ideal S4x2048x2048 .f32) (gate : FVec Ideal S4x2048 .f32) : FVec Ideal S4x2048x2048 .f32 :=
  addf (mulf (broadcastInDim S4x2048x2048 ![] bcast_S_S4x2048x2048 (constant S_ .f32 0x3FD744FD#32)) x)
    (mulf (broadcastInDim S4x2048x2048 ![0, 1, 2] bcast_S4x1x2048_S4x2048x2048_0_1_2
        (broadcastInDim S4x1x2048 ![0, 2] bcast_S4x2048_S4x1x2048_0_2 gate)) (refDown h wu wd))

/-- The reference's result is the norm of those rows. -/
theorem res_eq (c : Dev nD) : res_main_v42 m c
    = refNorm (refPre (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg6)) := by
  unfold res_main_v42; rfl

/-- The reference's norm at an index, by the row's own norm. -/
theorem refNorm_at (p : FVec Ideal S4x2048x2048 .f32) (g b : FVec Ideal S4x2048 .f32) (i : Fin 4) (r l : Fin 2048) :
    refNorm p g b (ix3 i r l) = Cert.Proof.rowNorm (fun x => p (ix3 i r x)) l * g (ix2 0 l) + b (ix2 0 l) := by
  pointwise [refNorm]

/-- The normalised rows at an index. -/
theorem refPre_at (h : FVec Ideal S4x2048x2048 .bf16) (wu : FVec Ideal S4x2048x8192 .f32) (wd : FVec Ideal S4x8192x2048 .f32)
    (x : FVec Ideal S4x2048x2048 .f32) (gate : FVec Ideal S4x2048 .f32) (i : Fin 4) (r l : Fin 2048) :
    refPre h wu wd x gate (ix3 i r l)
      = Ideal.ofBits .f32 0x3FD744FD#32 * x (ix3 i r l) + gate (ix2 i l) * ∑ k : Fin 8192, refUp h wu (ix3 i r k) * wd (ix3 0 k l) := by
  pointwise [refPre, refDown]

end Cert.FfnRefIdeal.Value

/-! ## The kernel -/

namespace Cert.FfnIdeal.Value

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point works on: the batch, the half of its rows, and the hidden columns. -/
theorem idx_ffn : ∀ t : Fin cfg0.N, win0_0.index t = ![t.val / 16, (t.val / 8) % 2, 0] ∧ win0_1.index t = ![0, 0, t.val % 8]
    ∧ win0_2.index t = ![0, t.val % 8, 0] ∧ win0_3.index t = ![t.val / 16, (t.val / 8) % 2, 0] ∧ win0_4.index t = ![t.val / 16, 0, 0]
    ∧ win0_5.index t = ![0, 0, 0] ∧ win0_6.index t = ![0, 0, 0] ∧ win0_7.index t = ![t.val / 16, (t.val / 8) % 2, 0] :=
  (by decide +kernel : ∀ t : Fin grid0.N, _)

/-- The kernel's norm of its rows at an index, by the row's own norm. -/
theorem norm_at (x : FVec Ideal S1x1024x2048 .f32) (gate : FVec Ideal S1x1x2048 .f32) (f : FVec Ideal S1x1024x2048 .f32)
    (g b : FVec Ideal S1x1x2048 .f32) (r : Fin 1024) (l : Fin 2048) :
    k0_pay2 (k0_pay3 x gate f g b) (ix3 0 r l)
      = Cert.Proof.rowNorm (fun x' => Ideal.ofBits .f32 0x3FD744FD#32 * x (ix3 0 r x') + gate (ix3 0 0 x') * f (ix3 0 r x')) l
          * g (ix3 0 0 l) + b (ix3 0 0 l) := by
  pointwise [k0_pay2, k0_pay3]

/-- A point's share of the second product: its hidden columns' terms. -/
abbrev share (h : FVec Ideal S1x1024x2048 .bf16) (wu : FVec Ideal S1x2048x1024 .bf16) (wd : FVec Ideal S1x1024x2048 .bf16) :
    S1x1024x2048.Idx → Ideal .f32 :=
  fun y => ∑ k : Fin 1024, k0_pay5 (F := Ideal) h wu (ix2 (y 1) k) * wd (ix3 0 k (y 2))

/-- The right half of a block's columns. -/
abbrev rightCols : Rect S1x1024x2048 := Rect.unit ![0, 0, 1024] ![1, 1024, 1024] inb_S1x1024x2048_S1x1024x1024_0_0_1024

/-- The left half. -/
abbrev leftCols : Rect S1x1024x2048 := Rect.unit ![0, 0, 0] ![1, 1024, 1024] inb_S1x1024x2048_S1x1024x1024_0_0_0

/-- The right half that a point stores, over the block `a` it found. -/
theorem right_at (h : FVec Ideal S1x1024x2048 .bf16) (wu : FVec Ideal S1x2048x1024 .bf16) (wd : FVec Ideal S1x1024x2048 .bf16)
    (a : FVec Ideal S1x1024x2048 .f32) (x : S1x1024x1024.Idx) :
    k0_pay1 (F := Ideal) (k0_pay7 h wu (View.ld (Val := Elt Ideal) (e' := .f32) a rightCols) (View.ld (Val := Elt Ideal) (e' := .bf16) wd rightCols)) x
      = a (rightCols.emb x) + share h wu wd (rightCols.emb x) := by
  idx_vars x
  pointwise [k0_pay1, k0_pay7, share]
  blk_point []

/-- The left half. -/
theorem left_at (h : FVec Ideal S1x1024x2048 .bf16) (wu : FVec Ideal S1x2048x1024 .bf16) (wd : FVec Ideal S1x1024x2048 .bf16)
    (a : FVec Ideal S1x1024x2048 .f32) (x : S1x1024x1024.Idx) :
    k0_pay6 (F := Ideal) h wu (View.ld (Val := Elt Ideal) (e' := .f32) a leftCols) (View.ld (Val := Elt Ideal) (e' := .bf16) wd leftCols) x
      = a (leftCols.emb x) + share h wu wd (leftCols.emb x) := by
  idx_vars x
  pointwise [k0_pay6, share]
  blk_point []

/-- The two halves that a point stores over the block `a` it found, the right one last. -/
abbrev halves (h : FVec Ideal S1x1024x2048 .bf16) (wu : FVec Ideal S1x2048x1024 .bf16) (wd : FVec Ideal S1x1024x2048 .bf16)
    (a : FVec Ideal S1x1024x2048 .f32) : List (View.Piece (Elt Ideal) S1x1024x2048 .f32) :=
  [⟨rightCols, k0_pay1 (F := Ideal) (k0_pay7 h wu (View.ld (Val := Elt Ideal) (e' := .f32) a rightCols) (View.ld (Val := Elt Ideal) (e' := .bf16) wd rightCols))⟩,
    ⟨leftCols, k0_pay6 (F := Ideal) h wu (View.ld (Val := Elt Ideal) (e' := .f32) a leftCols) (View.ld (Val := Elt Ideal) (e' := .bf16) wd leftCols)⟩]

/-- They cover the block. -/
theorem halves_cover (h : FVec Ideal S1x1024x2048 .bf16) (wu : FVec Ideal S1x2048x1024 .bf16) (wd : FVec Ideal S1x1024x2048 .bf16)
    (a : FVec Ideal S1x1024x2048 .f32) (y : S1x1024x2048.Idx) : ∃ p ∈ halves h wu wd a, y ∈ p.1.set :=
  View.cover_of_tiledL (halves h wu wd a) S1x1024x1024.size (by sl_kernel_rfl) y

/-- They are the block found plus the point's share, whatever was stored before. -/
theorem halves_eq (h : FVec Ideal S1x1024x2048 .bf16) (wu : FVec Ideal S1x2048x1024 .bf16) (wd : FVec Ideal S1x1024x2048 .bf16)
    (a : FVec Ideal S1x1024x2048 .f32) (L : List (View.Piece (Elt Ideal) S1x1024x2048 .f32)) :
    View.canon (halves h wu wd a ++ L) = fun y => a y + share h wu wd y :=
  funext fun y => View.canon_append_of_piecesOf (Val := Elt Ideal) (s := S1x1024x2048) (e := .f32) (fun y => ((a y + share h wu wd y : Ideal .f32) : Elt Ideal .f32)) L (halves h wu wd a)
    ⟨right_at h wu wd a, left_at h wu wd a, trivial⟩ y (halves_cover h wu wd a y)

/-- What a point adds to the accumulated block. -/
abbrev term (c : Dev nD) (t : Fin cfg0.N) : S1x1024x2048.Idx → Ideal .f32 :=
  share (iblk m c 0 t) (iblk m c 1 t) (iblk m c 2 t)

/-- The first point of a block of rows leaves its share alone. -/
theorem first (c : Dev nD) (t : Fin cfg0.N) (h0 : t.val % 8 = 0) (y : S1x1024x2048.Idx) :
    outsAt0 m c t.val t.isLt y = 0 + term m c t y := by
  rw [outsAt0_A m c t h0 (by omega)]
  frame_open
  simp (disch := decide) only [↓ View.readCov_skip, ↓ View.readCov_cons_toLoadRect, ↓ View.readCov_fill]
  frame_out
  refine (congrFun (halves_eq _ _ _ _ [_]) y).trans (congrArg (· + _) ?_)
  idx_vars y
  pointwise [k0_pay4]

/-- A later point but the last adds its share to what the point before left. -/
theorem later (c : Dev nD) (t : Fin cfg0.N) (h0 : ¬t.val % 8 = 0) (h1 : ¬t.val % 8 = 7) :
    outsAt0 m c t.val t.isLt
      = fun y => outsAt0 m c (t.val - 1) (Nat.lt_of_le_of_lt (Nat.sub_le _ _) t.isLt) y + term m c t y := by
  rw [outsAt0_B m c t h0 h1]
  frame_out
  exact halves_eq _ _ _ _ []

/-- The last point normalises the accumulated block. -/
theorem last (c : Dev nD) (t : Fin cfg0.N) (h1 : t.val % 8 = 7) :
    outsAt0 m c t.val t.isLt
      = k0_pay2 (F := Ideal) (k0_pay3 (iblk m c 3 t) (iblk m c 4 t)
          (fun y => outsAt0 m c (t.val - 1) (Nat.lt_of_le_of_lt (Nat.sub_le _ _) t.isLt) y + term m c t y)
          (iblk m c 5 t) (iblk m c 6 t)) := by
  rw [outsAt0_C m c t (by omega) h1]
  frame_out
  have hr : ∀ a : FVec Ideal S1x1024x2048 .f32,
      (ms0_7 t).view.readCov (halves (iblk m c 0 t) (iblk m c 1 t) (iblk m c 2 t) a)
          (Rect.unit ![0, 0, 0] ![1, 1024, 2048] inb_S1x1024x2048_S1x1024x2048_0_0_0).toLoadRect
        = fun y => a y + term m c t y := fun a => by
    refine (View.readCov_eq_canon_ld (ms0_7 t).view _ (Rect.unit (s := S1x1024x2048) ![0, 0, 0] ![1, 1024, 2048] inb_S1x1024x2048_S1x1024x2048_0_0_0)
      (halves_cover _ _ _ a)).trans ?_
    rw [View.ld_unit_lit _ _ (by decide)]
    exact halves_eq _ _ _ a []
  exact congrArg (fun f => k0_pay2 (F := Ideal) (k0_pay3 (iblk m c 3 t) (iblk m c 4 t) f (iblk m c 5 t) (iblk m c 6 t))) (hr _)

/-- The accumulated block after a point: what the point leaves, or, at the last point, what it normalises. -/
def acc (c : Dev nD) (n : ℕ) (h : n < cfg0.N) : S1x1024x2048.Idx → Ideal .f32 :=
  if n % 8 = 7 then fun y => outsAt0 m c (n - 1) (Nat.lt_of_le_of_lt (Nat.sub_le _ _) h) y + term m c ⟨n, h⟩ y
  else outsAt0 m c n h

/-- A first point starts the accumulated block, … -/
theorem acc_first (c : Dev nD) (t : Fin cfg0.N) (h0 : t.val % 8 = 0) (y : S1x1024x2048.Idx) :
    acc m c t.val t.isLt y = 0 + term m c t y := by
  unfold acc
  rw [if_neg (by omega), first m c t h0]

/-- … and every later point adds to it. -/
theorem acc_later (c : Dev nD) (t : Fin cfg0.N) (h0 : ¬t.val % 8 = 0) (y : S1x1024x2048.Idx) :
    acc m c t.val t.isLt y = acc m c (t.val - 1) (Nat.lt_of_le_of_lt (Nat.sub_le _ _) t.isLt) y + term m c t y := by
  unfold acc
  rw [if_neg (show ¬(t.val - 1) % 8 = 7 by omega)]
  by_cases h1 : t.val % 8 = 7
  · rw [if_pos h1]
  · rw [if_neg h1, later m c t h0 h1]

/-- So at the last point it is the sum of the eight shares. -/
theorem acc_last (c : Dev nD) (t : Fin cfg0.N) (h1 : t.val % 8 = 7) (y : S1x1024x2048.Idx) :
    outsAt0 m c (t.val - 1) (Nat.lt_of_le_of_lt (Nat.sub_le _ _) t.isLt) y + term m c t y
      = ∑ s : Fin 8, term m c ⟨8 * (t.val / 8) + s.val, Pipeline.run_point_lt_of_flush t h1 s⟩ y := by
  have h := Pipeline.eq_sum_fin_of_reset_step_apply_of_flush (fun n h => acc m c n h) 8 (fun _ => 0) (term m c)
    (acc_first m c) (acc_later m c) t h1 y
  rw [zero_add] at h
  rw [← h]
  show _ = acc m c t.val t.isLt y
  unfold acc
  rw [if_pos h1]

/-- The eight shares are the reference's second product. -/
theorem shares_eq (c : Dev nD) (t : Fin cfg0.N) (h1 : t.val % 8 = 7) (r : Fin 1024) (l : Fin 2048) (i : Fin 4) (r' : Fin 2048)
    (hi : i.val = t.val / 16) (hr : r'.val = t.val / 8 % 2 * 1024 + r.val) :
    (∑ s : Fin 8, term m c ⟨8 * (t.val / 8) + s.val, Pipeline.run_point_lt_of_flush t h1 s⟩ (ix3 0 r l))
      = ∑ k : Fin 8192, Cert.FfnRefIdeal.Value.refUp (m ((c : Thread nD τ).loc main_arg0)) (m ((c : Thread nD τ).loc main_arg1)) (ix3 i r' k)
          * m ((c : Thread nD τ).loc main_arg2) (ix3 0 k l) := by
  refine Fin.sum_mul_add_congr fun s k hl => ?_
  pointwise [k0_pay5, Cert.FfnRefIdeal.Value.refUp]
  blk_point [iblk, V, idx_ffn t, idx_ffn ⟨_, Pipeline.run_point_lt_of_flush t h1 s⟩, hi, hr]

/-- The residual stream's block at a point, -/
abbrev xBlk (c : Dev nD) (t : Fin cfg0.N) : FVec Ideal S1x1024x2048 .f32 := iblk m c 3 t

/-- and the gates' block. -/
abbrev gateBlk (c : Dev nD) (t : Fin cfg0.N) : FVec Ideal S1x1x2048 .f32 := iblk m c 4 t

/-- What the last point of a block of rows leaves is the reference there. -/
theorem point_ffn (c : Dev nD) (t : Fin cfg0.N) (h1 : t.val % 8 = 7) (r : Fin 1024) (l : Fin 2048) (i : Fin 4) (r' : Fin 2048)
    (hi : i.val = t.val / 16) (hr : r'.val = t.val / 8 % 2 * 1024 + r.val) :
    outsAt0 m c t.val t.isLt (ix3 0 r l)
      = Cert.FfnRefIdeal.Value.refNorm
          (Cert.FfnRefIdeal.Value.refPre (m ((c : Thread nD τ).loc main_arg0)) (m ((c : Thread nD τ).loc main_arg1))
            (m ((c : Thread nD τ).loc main_arg2)) (m ((c : Thread nD τ).loc main_arg3)) (m ((c : Thread nD τ).loc main_arg4)))
          (m ((c : Thread nD τ).loc main_arg5)) (m ((c : Thread nD τ).loc main_arg6)) (ix3 i r' l) := by
  rw [last m c t h1, norm_at, Cert.FfnRefIdeal.Value.refNorm_at]
  have hp : (fun x' : Fin 2048 => Ideal.ofBits .f32 0x3FD744FD#32 * xBlk m c t (ix3 0 r x') + gateBlk m c t (ix3 0 0 x')
        * (outsAt0 m c (t.val - 1) (Nat.lt_of_le_of_lt (Nat.sub_le _ _) t.isLt) (ix3 0 r x') + term m c t (ix3 0 r x')))
      = fun x' : Fin 2048 => Cert.FfnRefIdeal.Value.refPre (m ((c : Thread nD τ).loc main_arg0)) (m ((c : Thread nD τ).loc main_arg1))
            (m ((c : Thread nD τ).loc main_arg2)) (m ((c : Thread nD τ).loc main_arg3)) (m ((c : Thread nD τ).loc main_arg4)) (ix3 i r' x') := by
    funext x'
    rw [Cert.FfnRefIdeal.Value.refPre_at, acc_last m c t h1, shares_eq m c t h1 r x' i r' hi hr]
    refine congrArg₂ (· + ·) (congrArg₂ (· * ·) rfl ?_) (congrArg₂ (· * ·) ?_ rfl)
    all_goals blk_point [xBlk, gateBlk, iblk, V, idx_ffn t, hi, hr]
  refine congrArg₂ (· + ·) (congrArg₂ (· * ·) (congrArg (fun p => Cert.Proof.rowNorm p l) hp) ?_) ?_
  all_goals blk_point [iblk, V, idx_ffn t, hi, hr]

/-- The same at an index of the block and the array's index that it lands on. -/
theorem point_block (c : Dev nD) (t : Fin cfg0.N) (h1 : t.val % 8 = 7) (y : S1x1024x2048.Idx) (j : S4x2048x2048.Idx)
    (h0 : (j 0).val = t.val / 16) (hj1 : (j 1).val = t.val / 8 % 2 * 1024 + (y 1).val) (hj2 : (j 2).val = (y 2).val) :
    outsAt0 m c t.val t.isLt y
      = Cert.FfnRefIdeal.Value.refNorm
          (Cert.FfnRefIdeal.Value.refPre (m ((c : Thread nD τ).loc main_arg0)) (m ((c : Thread nD τ).loc main_arg1))
            (m ((c : Thread nD τ).loc main_arg2)) (m ((c : Thread nD τ).loc main_arg3)) (m ((c : Thread nD τ).loc main_arg4)))
          (m ((c : Thread nD τ).loc main_arg5)) (m ((c : Thread nD τ).loc main_arg6)) j := by
  have hy : y = ix3 0 (y 1) (y 2) := by
    funext a; fin_cases a
    · exact Subsingleton.elim (α := Fin 1) _ _
    · rfl
    · rfl
  have hj : j = ix3 (j 0) (j 1) (y 2) := by
    funext a; fin_cases a
    · rfl
    · rfl
    · exact Fin.ext hj2
  rw [hy, hj]
  exact point_ffn m c t h1 (y 1) (y 2) (j 0) (j 1) h0 hj1

/-- The result array after the run is the reference's. -/
theorem final_ffn (c : Dev nD) : (dats m 0 c).arrAt 7 (cfgs 0).N
    = Cert.FfnRefIdeal.Value.refNorm
        (Cert.FfnRefIdeal.Value.refPre (m ((c : Thread nD τ).loc main_arg0)) (m ((c : Thread nD τ).loc main_arg1))
          (m ((c : Thread nD τ).loc main_arg2)) (m ((c : Thread nD τ).loc main_arg3)) (m ((c : Thread nD τ).loc main_arg4)))
        (m ((c : Thread nD τ).loc main_arg5)) (m ((c : Thread nD τ).loc main_arg6)) := by
  refine (dats m 0 c).arrAt_eq_of_covers 7 _ (by decide +kernel) fun t hf y => ?_
  have h1 : t.val % 8 = 7 := (flush0_7 t).mp hf
  blk_simp
  rw [after0_7]
  exact point_block m c t h1 y _ (by blk_simp [idx_ffn t]) (by blk_simp [idx_ffn t]) (by blk_simp [idx_ffn t])

end Cert.FfnIdeal.Value

namespace Cert.Proof

open Idealize.ShloMosaic Idealize.ShloMosaic.TcCoe Idealize.SL.Sem

/-- The feed-forward kernel and its reference end with the same array. -/
theorem ffn : Cert.algebraic_FfnIdeal_FfnRefIdeal (hFfnIdeal := Cert.FfnIdeal.Gen.facts)
    (hFfnRefIdeal := Cert.FfnRefIdeal.Gen.facts) := by
  pair_intro
  · run_from Cert.FfnIdeal.Gen.run_main m g
  · run_from Cert.FfnRefIdeal.Value.run m' g'
    obtain ⟨e0, e1, e2, e3, e4, e5, e6⟩ := hagree c
    rw [Cert.FfnRefIdeal.Value.res_eq m' c, e0, e1, e2, e3, e4, e5, e6]
    exact  (Cert.FfnIdeal.Value.final_ffn m c).symm

end Cert.Proof

end
-- ==== Proof.Modulation.lean ====
/- The modulation: what its kernel leaves in the result array is the reference's product.
   Every grid point works on one layer and 1024 of its columns: it gates the conditioning vectors of both batches, multiplies
   them by its block of columns and adds the columns' biases. -/
module

public import proofs.«01_k».proof.Proof.Gen.AdaIdeal.Value
public import proofs.«01_k».proof.Proof.Gen.AdaRefIdeal.Run
public import Idealize.ShloMosaic.Lib.Pipeline.ValueKit
public import Idealize.ShloMosaic.Lib.Claim
public import proofs.«01_k».proof.Defs

@[expose] public section

set_option maxRecDepth 16384

noncomputable section

namespace Cert.AdaIdeal.Value

open Cert.AdaIdeal Cert.AdaIdeal.Gen Idealize.ShloMosaic Idealize.ShloMosaic.TcCoe Idealize.SL.Sem
open Idealize.ShloMosaic.Pipeline (Dat)

variable (m : (ℓ : Loc nD τ sig) → Buf (Elt Ideal) ℓ)

/-- The conditioning vectors, gated by their logistic function, times the layer's columns, plus the column's bias. -/
def entry (z : FVec Ideal S16x2048 .f32) (w : FVec Ideal S4x2048x12288 .f32) (b : FVec Ideal S4x12288 .f32)
    (l : Fin 4) (r : Fin 16) (k : Fin 12288) : EReal :=
  (∑ d : Fin 2048, z (ix2 r d) * Ideal.div 1 (1 + Ideal.exp (-z (ix2 r d))) * w (ix3 l d k)) + b (ix2 l k)

/-- The reference on conditioning vectors that lie in one array. -/
abbrev adaRef (z : FVec Ideal S16x2048 .f32) (w : FVec Ideal S4x2048x12288 .f32) (b : FVec Ideal S4x12288 .f32) :
    FVec Ideal S4x16x12288 .f32 :=
  addf
    (transpose Cert.AdaRefIdeal.S4x16x12288 [0, 2, 1]
      (Host.dotGeneral Cert.AdaRefIdeal.dot_S4x2048x12288_S16x2048_S4x12288x16_1_1_02_0_n_n none w
        (mulf z (Host.divf (broadcastInDim Cert.AdaRefIdeal.S16x2048 ![] Cert.AdaRefIdeal.Gen.bcast_S_S16x2048 (constant Cert.AdaRefIdeal.S_ .f32 0x3F800000#32))
          (addf (broadcastInDim Cert.AdaRefIdeal.S16x2048 ![] Cert.AdaRefIdeal.Gen.bcast_S_S16x2048 (constant Cert.AdaRefIdeal.S_ .f32 0x3F800000#32))
            (Host.exp (Host.negf z))))))
      Cert.AdaRefIdeal.Gen.transposes_S4x12288x16_S4x16x12288_0_2_1)
    (broadcastInDim Cert.AdaRefIdeal.S4x16x12288 ![0, 1, 2] Cert.AdaRefIdeal.Gen.bcast_S4x1x12288_S4x16x12288_0_1_2
      (broadcastInDim Cert.AdaRefIdeal.S4x1x12288 ![0, 2] Cert.AdaRefIdeal.Gen.bcast_S4x12288_S4x1x12288_0_2 b))

theorem adaRef_at (z : FVec Ideal S16x2048 .f32) (w : FVec Ideal S4x2048x12288 .f32) (b : FVec Ideal S4x12288 .f32)
    (l : Fin 4) (r : Fin 16) (k : Fin 12288) : adaRef z w b (ix3 l r k) = entry z w b l r k := by
  unfold entry
  pointwise [adaRef]
  refine congrArg (· + _) (Finset.sum_congr rfl fun d _ => mul_comm _ _)

/-- What a point stores, index by index. -/
theorem stored_at (x : Vec Ideal S16x2048 .f32) (w : Vec Ideal S1x2048x1024 .f32) (b : Vec Ideal S1x1x1024 .f32)
    (r : Fin 16) (k : Fin 1024) : k0_pay1 x w b (ix3 0 r k)
      = (∑ d : Fin 2048, x (ix2 r d) * Ideal.div 1 (1 + Ideal.exp (-x (ix2 r d))) * w (ix3 0 d k)) + b (ix3 0 0 k) := by
  pointwise [k0_pay1]
  rfl

/-- The conditioning vectors of both batches one under the other, with four rows of zeros below. -/
def conds (a : FVec Ideal S4x2048 .f32) (s : FVec Ideal S8x2048 .f32) : FVec Ideal S16x2048 .f32 :=
  concatenate Cert.AdaRefIdeal.S16x2048 0
    [⟨Cert.AdaRefIdeal.S4x2048, a⟩, ⟨Cert.AdaRefIdeal.S8x2048, s⟩,
      ⟨Cert.AdaRefIdeal.S4x2048, broadcastInDim Cert.AdaRefIdeal.S4x2048 ![] Cert.AdaRefIdeal.Gen.bcast_S_S4x2048 (constant Cert.AdaRefIdeal.S_ .f32 0x00000000#32)⟩]
    Cert.AdaRefIdeal.Gen.concatenates_S4x2048_S8x2048_S4x2048_S16x2048_d0

/-- The host lays them out so for the kernel. -/
theorem conds_eq (c : Dev nD) : V m c main_v1 = conds (m ((c : Thread nD τ).loc main_arg0)) (m ((c : Thread nD τ).loc main_arg1)) := by
  unfold V
  simp only [hostOps0]
  after_results_simp
  rfl

/-- Which block of each array a grid point works on: the layer is the point's number over twelve, the columns its remainder. -/
theorem idx_ada : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- The reference on the run's arguments. -/
def refOf (c : Dev nD) : FVec Ideal S4x16x12288 .f32 :=
  adaRef (conds (m ((c : Thread nD τ).loc main_arg0)) (m ((c : Thread nD τ).loc main_arg1))) (m ((c : Thread nD τ).loc main_arg2))
    (m ((c : Thread nD τ).loc main_arg3))

/-- A point's block of the conditioning vectors is all of them. -/
theorem conds_block (c : Dev nD) (t : Fin cfg0.N) (r : Fin 16) (d : Fin 2048) : iblk m c 0 t (ix2 r d)
    = conds (m ((c : Thread nD τ).loc main_arg0)) (m ((c : Thread nD τ).loc main_arg1)) (ix2 r d) := by
  rw [← conds_eq]
  exact congrArg (V m c main_v1) (by blk_ext [idx_ada t])

/-- What a point stores is the reference there, … -/
theorem point_at (c : Dev nD) (t : Fin cfg0.N) (r : Fin 16) (k : Fin 1024) (l : Fin 4) (k' : Fin 12288)
    (hl : l.val = t.val / 12) (hk : k'.val = t.val % 12 * 1024 + k.val) :
    k0_pay1 (F := Ideal) (iblk m c 0 t) (iblk m c 1 t) (iblk m c 2 t) (ix3 0 r k) = refOf m c (ix3 l r k') := by
  refine (stored_at _ _ _ r k).trans ?_
  refine Eq.trans ?_ (adaRef_at _ _ _ l r k').symm
  unfold entry
  refine congrArg₂ (· + ·) (Finset.sum_congr rfl fun d _ => ?_) ?_
  · rw [conds_block]
    refine congrArg₂ (· * ·) rfl ?_
    blk_point [iblk, V_main_arg2 m c, idx_ada t, hl, hk]
  · blk_point [iblk, V, idx_ada t, hl, hk]

/-- … at any index of its block. -/
theorem point_ada (c : Dev nD) (t : Fin cfg0.N) (y : S1x16x1024.Idx) (j : S4x16x12288.Idx)
    (h0 : (j 0).val = t.val / 12) (h1 : (j 1).val = (y 1).val) (h2 : (j 2).val = t.val % 12 * 1024 + (y 2).val) :
    k0_pay1 (F := Ideal) (iblk m c 0 t) (iblk m c 1 t) (iblk m c 2 t) y = refOf m c j := by
  have hy : y = ix3 0 (y 1) (y 2) := by
    funext a; fin_cases a
    · exact Subsingleton.elim (α := Fin 1) _ _
    · rfl
    · rfl
  have hj : j = ix3 (j 0) (y 1) (j 2) := by
    funext a; fin_cases a
    exacts [rfl, Fin.ext h1, rfl]
  rw [hy, hj]
  exact point_at m c t (y 1) (y 2) (j 0) (j 2) h0 h2

/-- The result array after the run is the reference's. -/
theorem final_ada (c : Dev nD) : (dats m 0 c).arrAt 3 (cfgs 0).N = refOf m c := by
  refine (dats m 0 c).arrAt_eq_of_covers 3 _ (by decide +kernel) fun t _ y => ?_
  blk_simp
  rw [after0_3]
  frame_out
  exact point_ada m c t y _ (by blk_simp [idx_ada t]) (by blk_simp [idx_ada t]) (by blk_simp [idx_ada t])

end Cert.AdaIdeal.Value

namespace Cert.Proof

open Idealize.ShloMosaic Idealize.ShloMosaic.TcCoe Idealize.SL.Sem

/-- The modulation's kernel and its reference end with the same array. -/
theorem modulation : Cert.algebraic_AdaIdeal_AdaRefIdeal (hAdaIdeal := Cert.AdaIdeal.Gen.facts)
    (hAdaRefIdeal := Cert.AdaRefIdeal.Gen.facts) := by
  pair_intro
  · run_from Cert.AdaIdeal.Gen.run_main m g
  · run_from Cert.AdaRefIdeal.Value.run m' g'
    exact (Cert.AdaIdeal.Value.final_ada m c).symm

end Cert.Proof

end
-- ==== Proof.ConvolutionMath.lean ====
/- The convolution mixer's mathematics, as both programs compute it: a gated row, its thirty-one taps, the norm. -/
module

public import Idealize.ShloMosaic.Lib.Pipeline.ValueKit

@[expose] public section

noncomputable section

namespace Cert.Proof.Conv

open Idealize.ShloMosaic

/-- The mean of a row of 512 numbers. -/
abbrev mean (p : Fin 512 → Ideal .f32) : Ideal .f32 :=
  Ideal.div (∑ x, p x) (Ideal.ofBits .f32 0x44000000#32)

/-- The row with its mean taken off, over the root of its variance plus a small number. -/
abbrev norm (p : Fin 512 → Ideal .f32) (l : Fin 512) : Ideal .f32 :=
  (p l - mean p)
    * Ideal.rsqrt (Ideal.div (∑ x, (p x - mean p) * (p x - mean p)) (Ideal.ofBits .f32 0x44000000#32)
        + Ideal.ofBits .f32 0x3727C5AC#32)

/-- A number times its logistic. -/
abbrev silu (q : Ideal .f32) : Ideal .f32 := q * Ideal.div 1 (1 + Ideal.exp (-q))

/-- What the mixer makes of a row: its norm with a gain and a bias, times that one's logistic. -/
abbrev outOf (p : Fin 512 → Ideal .f32) (g b : Ideal .f32) (l : Fin 512) : Ideal .f32 :=
  silu (norm p l * g + b)

/-- The first `n` taps of a column on the rows from `s` on: weights `w`, rows `f`. -/
def taps (w f : ℕ → Ideal .f32) (n s : ℕ) : Ideal .f32 := ∑ k ∈ Finset.range n, w k * f (s + k)

/-- One tap more. -/
theorem taps_succ (w f : ℕ → Ideal .f32) (n s : ℕ) : taps w f (n + 1) s = taps w f n s + w n * f (s + n) :=
  Finset.sum_range_succ _ _

/-- No tap. -/
theorem taps_zero (w f : ℕ → Ideal .f32) (s : ℕ) : taps w f 0 s = 0 := Finset.sum_range_zero _

/-- The weight of tap `k` in column `d`; nothing past the last. -/
def weight (w : Fin 31 → Fin 512 → Ideal .f32) (d : Fin 512) (k : ℕ) : Ideal .f32 := if h : k < 31 then w ⟨k, h⟩ d else 0

/-- A tap's weight. -/
theorem weight_of (w : Fin 31 → Fin 512 → Ideal .f32) (d : Fin 512) (k : ℕ) (h : k < 31) : weight w d k = w ⟨k, h⟩ d := dif_pos h

/-- Column `d` of row `s` of the gated rows `u` with thirty rows of zeros before them. -/
def padded (u : Fin 2048 → Fin 512 → Ideal .f32) (d : Fin 512) (s : ℕ) : Ideal .f32 :=
  if h : 30 ≤ s ∧ s < 2078 then u ⟨s - 30, by omega⟩ d else 0

/-- Row `r` of the mixer's result. -/
def mixed (w : Fin 31 → Fin 512 → Ideal .f32) (cb g b : Fin 512 → Ideal .f32) (f : Fin 512 → ℕ → Ideal .f32) (s : ℕ) (l : Fin 512) :
    Ideal .f32 :=
  outOf (fun d => cb d + taps (weight w d) (f d) 31 s) (g l) (b l) l

end Cert.Proof.Conv

end
-- ==== Proof.ConvolutionBlock.lean ====
/- One block of 32 rows of the convolution mixer's kernel: thirty-one taps on rows of the scratch, then the norm. -/
module

public import proofs.«01_k».proof.Proof.Gen.ConvIdeal.Frame
public import proofs.«01_k».proof.Proof.ConvolutionMath
public import Idealize.ShloMosaic.Lib.WritesUnit

@[expose] public section

set_option maxRecDepth 16384

noncomputable section

namespace Cert.ConvIdeal.Value

open Cert.ConvIdeal Cert.ConvIdeal.Gen Idealize.ShloMosaic Idealize.ShloMosaic.TcCoe Idealize.SL.Sem
open Cert.Proof.Conv

/-- The first `k` taps on the 32 rows from `n` on are what `a` holds. -/
def Holds (w : Fin 31 → Fin 512 → Ideal .f32) (cb : Fin 512 → Ideal .f32) (f : Fin 512 → ℕ → Ideal .f32) (n k : ℕ)
    (a : FVec Ideal S32x512 .f32) : Prop :=
  ∀ (r : Fin 32) (d : Fin 512), a (ix2 r d) = cb d + taps (weight w d) (f d) k (n + r.val)

/-- No tap: the bias alone. -/
theorem holds_zero (w : Fin 31 → Fin 512 → Ideal .f32) (cb : Vec Ideal S1x1x512 .f32) (f : Fin 512 → ℕ → Ideal .f32) (n : ℕ) :
    Holds w (fun d => cb (ix3 0 0 d)) f n 0 (broadcastTo S32x512 (shapeCast S1x512 (shapeCast S1x512 cb shapeCasts_S1x1x512_S1x512)
      shapeCasts_S1x512_S1x512) broadcasts_S1x512_S32x512) := fun r d => by
  rw [taps_zero, add_zero]
  pointwise

/-- One tap more: its weights `u` times the rows `v`. -/
theorem holds_succ (w : Fin 31 → Fin 512 → Ideal .f32) (cb : Fin 512 → Ideal .f32) (f : Fin 512 → ℕ → Ideal .f32) (n k : ℕ)
    (a v : FVec Ideal S32x512 .f32) (u : FVec Ideal S1x1x512 .f32) (h : k < 31) (ha : Holds w cb f n k a)
    (hu : ∀ d : Fin 512, u (ix3 0 0 d) = w ⟨k, h⟩ d) (hv : ∀ (r : Fin 32) (d : Fin 512), v (ix2 r d) = f d (n + r.val + k)) :
    Holds w cb f n (k + 1) (addf a (mulf (broadcastTo S32x512 (shapeCast S1x512 u shapeCasts_S1x1x512_S1x512)
      broadcasts_S1x512_S32x512) v)) := fun r d => by
  rw [taps_succ, ← add_assoc, ← ha r d, ← hv r d, weight_of _ _ k h, ← hu d]
  pointwise

/-- A tap's weights, out of the block of weights. -/
theorem weight_at (w : Vec Ideal S1x31x512 .f32) (k : ℕ) (h : k < 31)
    (inb : ∀ a, (![0, k, 0] : Fin 3 → ℕ) a + (![1, 1, 512] : Fin 3 → ℕ) a ≤ S1x31x512.size a) (d : Fin 512) :
    (View.ld w (Rect.unit ![0, k, 0] ![1, 1, 512] inb) : Vec Ideal S1x1x512 .f32) (ix3 0 0 d) = w (ix3 0 ⟨k, h⟩ d) := by
  refine View.ld_unit_apply_of _ _ _ _ _ _ fun a => ?_
  fin_cases a <;> simp [ix3]

/-- A tap's rows, out of the scratch. -/
theorem rows_at (U : Vec Ideal S288x512 .f32) (f : Fin 512 → ℕ → Ideal .f32) (o : ℕ) (ho : o ≤ 256)
    (inb : ∀ a, (![o, 0] : Fin 2 → ℕ) a + (![32, 512] : Fin 2 → ℕ) a ≤ S288x512.size a)
    (hU : ∀ (j : Fin 288) (d : Fin 512), o ≤ j.val → U (ix2 j d) = f d (j.val - 2)) (r : Fin 32) (d : Fin 512) (s : ℕ) (hs : s + 2 = o + r.val) :
    (View.ld U (Rect.unit ![o, 0] ![32, 512] inb) : Vec Ideal S32x512 .f32) (ix2 r d) = f d s := by
  refine (View.ld_unit_apply_of U _ _ _ (ix2 r d) (ix2 ⟨o + r.val, by omega⟩ d) fun a => ?_).trans
    ((hU _ d (Nat.le_add_right _ _)).trans (congrArg (f d) (by show o + r.val - 2 = s; omega)))
  fin_cases a <;> simp [ix2]

/-- What is made of a block's rows, at an index. -/
theorem normed_at (p : FVec Ideal S32x512 .f32) (g b : Vec Ideal S1x1x512 .f32) (r : Fin 32) (l : Fin 512) :
    k0_pay48 p (k0_pay47 g) b (ix3 0 r l) = outOf (fun d => p (ix2 r d)) (g (ix3 0 0 l)) (b (ix3 0 0 l)) l := by
  pointwise [k0_pay48, k0_pay47]
  rfl

/-- A block's rows are the mixer's, when all taps are held. -/
theorem block_at (w : Fin 31 → Fin 512 → Ideal .f32) (cb : Fin 512 → Ideal .f32) (f : Fin 512 → ℕ → Ideal .f32) (n : ℕ)
    (p : FVec Ideal S32x512 .f32) (g b : Vec Ideal S1x1x512 .f32) (hp : Holds w cb f n 31 p)
    (x : S1x32x512.Idx) (s : ℕ) (hs : s = n + (x 1).val) (l : Fin 512) (hl : l.val = (x 2).val) :
    k0_pay48 p (k0_pay47 g) b x = mixed w cb (fun d => g (ix3 0 0 d)) (fun d => b (ix3 0 0 d)) f s l := by
  have hx : x = ix3 0 (x 1) l := by
    funext a; fin_cases a
    · exact Subsingleton.elim (α := Fin 1) _ _
    · rfl
    · exact Fin.ext hl.symm
  have hs' : s = n + (show Fin 32 from x 1).val := hs
  rw [hx, hs']
  refine (normed_at _ g b (x 1) l).trans ?_
  exact congrArg (fun p => outOf p (g (ix3 0 0 l)) (b (ix3 0 0 l)) l) (funext fun d => hp (x 1) d)

/-! ## The scratch -/

/-- The gated rows that a point puts into the scratch. -/
abbrev fresh (ga a : Vec Ideal S1x256x512 .f32) : Vec Ideal S256x512 .f32 := k0_pay3 ga a

/-- The scratch with the pieces `L` written over `f`. -/
abbrev stored (f : (View.whole cc0_scratch0).ty.Contents (Elt Ideal)) (L : List (View.Piece (Elt Ideal) S288x512 .f32)) : Vec Ideal S288x512 .f32 :=
  View.read (Elt Ideal) (View.whole cc0_scratch0) ((View.whole cc0_scratch0).writes (Elt Ideal) f L)

/-- The piece of a point's gated rows, from row 32 on, … -/
abbrev rowsPiece (p : Vec Ideal S256x512 .f32) : View.Piece (Elt Ideal) S288x512 .f32 :=
  ⟨Rect.unit ![32, 0] ![256, 512] inb_S288x512_S256x512_32_0, p⟩

/-- … and of the 32 rows before them. -/
abbrev headPiece (q : Vec Ideal S32x512 .f32) : View.Piece (Elt Ideal) S288x512 .f32 :=
  ⟨Rect.unit ![0, 0] ![32, 512] inb_S288x512_S32x512_0_0, q⟩

/-- From row 32 on the scratch holds the point's rows, … -/
theorem stored_rows (f : (View.whole cc0_scratch0).ty.Contents (Elt Ideal)) (p : Vec Ideal S256x512 .f32)
    (L : List (View.Piece (Elt Ideal) S288x512 .f32)) (j : Fin 288) (d : Fin 512) (r : Fin 256) (h : j.val = 32 + r.val) :
    stored f (rowsPiece p :: L) (ix2 j d) = p (ix2 r d) := by
  refine View.read_writes_cons_unit_of_mem _ f _ p L (ix2 j d) (ix2 r d) rfl fun a => ?_
  fin_cases a
  · exact h
  · exact (Nat.zero_add _).symm

/-- … before it what was there, … -/
theorem stored_skip (f : (View.whole cc0_scratch0).ty.Contents (Elt Ideal)) (p : Vec Ideal S256x512 .f32)
    (L : List (View.Piece (Elt Ideal) S288x512 .f32)) (j : Fin 288) (d : Fin 512) (h : j.val < 32) :
    stored f (rowsPiece p :: L) (ix2 j d) = stored f L (ix2 j d) :=
  View.read_writes_cons_unit_of_not_mem _ f _ p L (ix2 j d) rfl 0 (Or.inl h)

/-- … or what was put there. -/
theorem stored_head (f : (View.whole cc0_scratch0).ty.Contents (Elt Ideal)) (q : Vec Ideal S32x512 .f32)
    (L : List (View.Piece (Elt Ideal) S288x512 .f32)) (j : Fin 288) (d : Fin 512) (r : Fin 32) (h : j.val = r.val) :
    stored f (headPiece q :: L) (ix2 j d) = q (ix2 r d) := by
  refine View.read_writes_cons_unit_of_mem _ f _ q L (ix2 j d) (ix2 r d) rfl fun a => ?_
  fin_cases a
  · exact h.trans (Nat.zero_add _).symm
  · exact (Nat.zero_add _).symm
/-- A tap's rows when they are all the point's own, … -/
theorem rows_own (p : Vec Ideal S256x512 .f32) (L : List (View.Piece (Elt Ideal) S288x512 .f32)) (f : Fin 512 → ℕ → Ideal .f32)
    (hp : ∀ (r : Fin 256) (d : Fin 512), p (ix2 r d) = f d (r.val + 30)) (o : ℕ) (ho : 32 ≤ o) (ho' : o ≤ 256)
    (inb : ∀ a, (![o, 0] : Fin 2 → ℕ) a + (![32, 512] : Fin 2 → ℕ) a ≤ S288x512.size a) (r : Fin 32) (d : Fin 512) (s : ℕ)
    (hs : s + 2 = o + r.val) :
    View.readCov (Val := Elt Ideal) (s := S288x512) (e := .f32) (View.whole cc0_scratch0) (rowsPiece p :: L)
      (Rect.unit (s := S288x512) ![o, 0] ![32, 512] inb).toLoadRect (ix2 r d) = f d s := by
  refine rows_at (stored (View.whole cc0_scratch0).junk (rowsPiece p :: L)) f o ho' inb (fun j d h => ?_) r d s hs
  exact (stored_rows _ p L j d ⟨j.val - 32, by omega⟩ (by show j.val = 32 + (j.val - 32); omega)).trans
    ((hp _ d).trans (congrArg (f d) (by show j.val - 32 + 30 = _; omega)))

/-- … when some are those carried from the point before, … -/
theorem rows_carried (p : Vec Ideal S256x512 .f32) (g : (View.whole cc0_scratch0).ty.Contents (Elt Ideal)) (f : Fin 512 → ℕ → Ideal .f32)
    (hp : ∀ (r : Fin 256) (d : Fin 512), p (ix2 r d) = f d (r.val + 30))
    (hg : ∀ (r : Fin 32) (d : Fin 512), 2 ≤ r.val →
      View.read (Elt Ideal) (View.whole cc0_scratch0) g (ix2 (⟨r.val, by omega⟩ : Fin 288) d) = f d (r.val - 2))
    (o : ℕ) (ho : 2 ≤ o) (ho' : o ≤ 256)
    (inb : ∀ a, (![o, 0] : Fin 2 → ℕ) a + (![32, 512] : Fin 2 → ℕ) a ≤ S288x512.size a) (r : Fin 32) (d : Fin 512) (s : ℕ)
    (hs : s + 2 = o + r.val) :
    (View.ld (stored g [rowsPiece p]) (Rect.unit ![o, 0] ![32, 512] inb) : Vec Ideal S32x512 .f32) (ix2 r d) = f d s := by
  refine rows_at _ f o ho' inb (fun j d h => ?_) r d s hs
  by_cases hj : j.val < 32
  · exact (stored_skip g p [] j d hj).trans (hg ⟨j.val, hj⟩ d (ho.trans h))
  · exact (stored_rows g p [] j d ⟨j.val - 32, by omega⟩ (by show j.val = 32 + (j.val - 32); omega)).trans
      ((hp _ d).trans (congrArg (f d) (by show j.val - 32 + 30 = _; omega)))

/-- … and when some are those laid down before the first point. -/
theorem rows_first (p : Vec Ideal S256x512 .f32) (q : Vec Ideal S32x512 .f32) (f : Fin 512 → ℕ → Ideal .f32)
    (hp : ∀ (r : Fin 256) (d : Fin 512), p (ix2 r d) = f d (r.val + 30))
    (hq : ∀ (r : Fin 32) (d : Fin 512), 2 ≤ r.val → q (ix2 r d) = f d (r.val - 2)) (o : ℕ) (ho : 2 ≤ o) (ho' : o ≤ 256)
    (inb : ∀ a, (![o, 0] : Fin 2 → ℕ) a + (![32, 512] : Fin 2 → ℕ) a ≤ S288x512.size a) (r : Fin 32) (d : Fin 512) (s : ℕ)
    (hs : s + 2 = o + r.val) :
    View.readCov (Val := Elt Ideal) (s := S288x512) (e := .f32) (View.whole cc0_scratch0) [rowsPiece p, headPiece q]
      (Rect.unit (s := S288x512) ![o, 0] ![32, 512] inb).toLoadRect (ix2 r d) = f d s := by
  refine rows_at (stored (View.whole cc0_scratch0).junk [rowsPiece p, headPiece q]) f o ho' inb (fun j d h => ?_) r d s hs
  by_cases hj : j.val < 32
  · exact (stored_skip _ p _ j d hj).trans ((stored_head _ q [] j d ⟨j.val, hj⟩ rfl).trans (hq ⟨j.val, hj⟩ d (ho.trans h)))
  · exact (stored_rows _ p _ j d ⟨j.val - 32, by omega⟩ (by show j.val = 32 + (j.val - 32); omega)).trans
      ((hp _ d).trans (congrArg (f d) (by show j.val - 32 + 30 = _; omega)))

/-! ## A tap more, by where its rows are -/

section Taps

variable {w : Vec Ideal S1x31x512 .f32} {cb : Fin 512 → Ideal .f32} {f : Fin 512 → ℕ → Ideal .f32} {n k o : ℕ} {a : FVec Ideal S32x512 .f32}
  {p : Vec Ideal S256x512 .f32} {q : Vec Ideal S32x512 .f32} {L : List (View.Piece (Elt Ideal) S288x512 .f32)}
  {g : (View.whole cc0_scratch0).ty.Contents (Elt Ideal)}
  {inb : ∀ a, (![o, 0] : Fin 2 → ℕ) a + (![32, 512] : Fin 2 → ℕ) a ≤ S288x512.size a}
  {inb' : ∀ a, (![0, k, 0] : Fin 3 → ℕ) a + (![1, 1, 512] : Fin 3 → ℕ) a ≤ S1x31x512.size a}

/-- The weights and the tap before, … -/
theorem holds_tap {v : FVec Ideal S32x512 .f32} (h : k < 31) (hv : ∀ (r : Fin 32) (d : Fin 512), v (ix2 r d) = f d (n + r.val + k))
    (ha : Holds (fun k d => w (ix3 0 k d)) cb f n k a) :
    Holds (fun k d => w (ix3 0 k d)) cb f n (k + 1) (addf a (mulf (broadcastTo S32x512 (shapeCast S1x512
      (View.ld w (Rect.unit ![0, k, 0] ![1, 1, 512] inb') : Vec Ideal S1x1x512 .f32) shapeCasts_S1x1x512_S1x512)
      broadcasts_S1x512_S32x512) v)) :=
  holds_succ _ cb f n k a v _ h ha (weight_at w k h inb') hv

/-- … with the point's own rows, … -/
theorem holds_own (hp : ∀ (r : Fin 256) (d : Fin 512), p (ix2 r d) = f d (r.val + 30)) (h : k < 31) (hn : n ≤ 224) (ho : 32 ≤ o)
    (e : o = n + 2 + k) (ha : Holds (fun k d => w (ix3 0 k d)) cb f n k a) :
    Holds (fun k d => w (ix3 0 k d)) cb f n (k + 1) (addf a (mulf (broadcastTo S32x512 (shapeCast S1x512
      (View.ld w (Rect.unit ![0, k, 0] ![1, 1, 512] inb') : Vec Ideal S1x1x512 .f32) shapeCasts_S1x1x512_S1x512)
      broadcasts_S1x512_S32x512) (View.readCov (Val := Elt Ideal) (s := S288x512) (e := .f32) (View.whole cc0_scratch0) (rowsPiece p :: L)
        (Rect.unit (s := S288x512) ![o, 0] ![32, 512] inb).toLoadRect))) :=
  holds_tap h (fun r d => rows_own p L f hp o ho (by omega) inb r d _ (by omega)) ha

/-- … with rows carried from the point before, … -/
theorem holds_carried (hp : ∀ (r : Fin 256) (d : Fin 512), p (ix2 r d) = f d (r.val + 30))
    (hg : ∀ (r : Fin 32) (d : Fin 512), 2 ≤ r.val →
      View.read (Elt Ideal) (View.whole cc0_scratch0) g (ix2 (⟨r.val, by omega⟩ : Fin 288) d) = f d (r.val - 2))
    (h : k < 31) (hn : n ≤ 224) (e : o = n + 2 + k) (ha : Holds (fun k d => w (ix3 0 k d)) cb f n k a) :
    Holds (fun k d => w (ix3 0 k d)) cb f n (k + 1) (addf a (mulf (broadcastTo S32x512 (shapeCast S1x512
      (View.ld w (Rect.unit ![0, k, 0] ![1, 1, 512] inb') : Vec Ideal S1x1x512 .f32) shapeCasts_S1x1x512_S1x512)
      broadcasts_S1x512_S32x512) (View.ld (stored g [rowsPiece p]) (Rect.unit ![o, 0] ![32, 512] inb)))) :=
  holds_tap h (fun r d => rows_carried p g f hp hg o (by omega) (by omega) inb r d _ (by omega)) ha

/-- … and with rows laid down before the first point. -/
theorem holds_first (hp : ∀ (r : Fin 256) (d : Fin 512), p (ix2 r d) = f d (r.val + 30))
    (hq : ∀ (r : Fin 32) (d : Fin 512), 2 ≤ r.val → q (ix2 r d) = f d (r.val - 2)) (h : k < 31) (hn : n ≤ 224) (e : o = n + 2 + k)
    (ha : Holds (fun k d => w (ix3 0 k d)) cb f n k a) :
    Holds (fun k d => w (ix3 0 k d)) cb f n (k + 1) (addf a (mulf (broadcastTo S32x512 (shapeCast S1x512
      (View.ld w (Rect.unit ![0, k, 0] ![1, 1, 512] inb') : Vec Ideal S1x1x512 .f32) shapeCasts_S1x1x512_S1x512)
      broadcasts_S1x512_S32x512) (View.readCov (Val := Elt Ideal) (s := S288x512) (e := .f32) (View.whole cc0_scratch0)
        [rowsPiece p, headPiece q] (Rect.unit (s := S288x512) ![o, 0] ![32, 512] inb).toLoadRect))) :=
  holds_tap h (fun r d => rows_first p q f hp hq o (by omega) (by omega) inb r d _ (by omega)) ha

end Taps

end Cert.ConvIdeal.Value

end
-- ==== Proof.ConvolutionRows.lean ====
/- What a grid point of the convolution mixer's kernel leaves of its first result: eight blocks of 32 rows, each the mixer's
   rows when the scratch holds the gated rows. A batch's first point lays rows before its own, a later one finds them. -/
module

public import proofs.«01_k».proof.Proof.ConvolutionBlock
public import Idealize.ShloMosaic.Lib.Pipeline.ReadBack
public import Idealize.ShloMosaic.Lib.Pipeline.ValueKit

@[expose] public section

set_option maxRecDepth 16384

noncomputable section

namespace Cert.ConvIdeal.Value

open Cert.ConvIdeal Cert.ConvIdeal.Gen Idealize.ShloMosaic Idealize.ShloMosaic.TcCoe Idealize.SL.Sem
open Cert.Proof.Conv

variable (m : (ℓ : Loc nD τ sig) → Buf (Elt Ideal) ℓ)

/-- The taps' weights at a point, the biases added to their sum, and the norm's gains and biases. -/
abbrev weights (c : Dev nD) (t : Fin cfg0.N) (k : Fin 31) (d : Fin 512) : Ideal .f32 := (iblk m c 3 t : Vec Ideal S1x31x512 .f32) (ix3 0 k d)
@[inherit_doc weights] abbrev biases (c : Dev nD) (t : Fin cfg0.N) (d : Fin 512) : Ideal .f32 := (iblk m c 4 t : Vec Ideal S1x1x512 .f32) (ix3 0 0 d)
@[inherit_doc weights] abbrev normGains (c : Dev nD) (t : Fin cfg0.N) (d : Fin 512) : Ideal .f32 := (iblk m c 5 t : Vec Ideal S1x1x512 .f32) (ix3 0 0 d)
@[inherit_doc weights] abbrev normBiases (c : Dev nD) (t : Fin cfg0.N) (d : Fin 512) : Ideal .f32 := (iblk m c 6 t : Vec Ideal S1x1x512 .f32) (ix3 0 0 d)

/-- The scratch as the point before leaves it. -/
abbrev before (c : Dev nD) (t : Fin cfg0.N) : Vec Ideal S288x512 .f32 :=
  (outsAt0 m c (t.val - 1) (Nat.lt_of_le_of_lt (Nat.sub_le _ _) t.isLt)).2.2

/-- What a point leaves of the first result, at the first point of a batch. -/
theorem rows_A (c : Dev nD) (t : Fin cfg0.N) (h0 : t.val % 8 = 0) (h1 : ¬t.val % 8 = 7) (f : Fin 512 → ℕ → Ideal .f32)
    (hp : ∀ (r : Fin 256) (d : Fin 512), fresh (iblk m c 1 t) (iblk m c 0 t) (ix2 r d) = f d (r.val + 30))
    (hq : ∀ (r : Fin 32) (d : Fin 512), 2 ≤ r.val → k0_pay2 (iblk m c 2 t) (ix2 r d) = f d (r.val - 2))
    (y : S1x256x512.Idx) (l : Fin 512) (hl : l.val = (y 2).val) :
    (outsAt0 m c t.val t.isLt).1 y = mixed (weights m c t) (biases m c t) (normGains m c t) (normBiases m c t) f (y 1).val l := by
  rw [outsAt0_A m c t h0 h1]
  frame_out
  canon_tiles x h
  case piece7 =>
    open_payloads
    refine block_at _ _ f 0 _ _ _ ?_ x _ (h1.trans (Nat.zero_add _).symm) _ (hl.trans h2)
    iterate 31 refine holds_first hp hq (by decide) (by decide) (by decide) ?_
    exact holds_zero _ _ f _
  all_goals
    open_payloads
    refine block_at _ _ f _ _ _ _ ?_ x _ h1 _ (hl.trans h2)
    iterate 31 refine holds_own hp (by decide) (by decide) (by decide) (by decide) ?_
    exact holds_zero _ _ f _

/-- What a point leaves of the first result, at a point between. -/
theorem rows_B (c : Dev nD) (t : Fin cfg0.N) (h0 : ¬t.val % 8 = 0) (h1 : ¬t.val % 8 = 7) (f : Fin 512 → ℕ → Ideal .f32)
    (hp : ∀ (r : Fin 256) (d : Fin 512), fresh (iblk m c 1 t) (iblk m c 0 t) (ix2 r d) = f d (r.val + 30))
    (hg : ∀ (r : Fin 32) (d : Fin 512), 2 ≤ r.val → before m c t (ix2 (⟨r.val, by omega⟩ : Fin 288) d) = f d (r.val - 2))
    (y : S1x256x512.Idx) (l : Fin 512) (hl : l.val = (y 2).val) :
    (outsAt0 m c t.val t.isLt).1 y = mixed (weights m c t) (biases m c t) (normGains m c t) (normBiases m c t) f (y 1).val l := by
  have hg' : ∀ (r : Fin 32) (d : Fin 512), 2 ≤ r.val → View.read (Elt Ideal) (View.whole cc0_scratch0)
      ((Memref.isWhole_whole cc0_scratch0).unread (before m c t)) (ix2 (⟨r.val, by omega⟩ : Fin 288) d) = f d (r.val - 2) :=
    fun r d h => (congrFun (read_unread_whole _ _ _) _).trans (hg r d h)
  rw [outsAt0_B m c t h0 h1]
  frame_out
  canon_tiles x h
  case piece7 =>
    open_payloads
    refine block_at _ _ f 0 _ _ _ ?_ x _ (h1.trans (Nat.zero_add _).symm) _ (hl.trans h2)
    refine holds_own hp (by decide) (by decide) (by decide) (by decide) ?_
    iterate 30 refine holds_carried hp hg' (by decide) (by decide) (by decide) ?_
    exact holds_zero _ _ f _
  all_goals
    open_payloads
    refine block_at _ _ f _ _ _ _ ?_ x _ h1 _ (hl.trans h2)
    iterate 31 refine holds_own hp (by decide) (by decide) (by decide) (by decide) ?_
    exact holds_zero _ _ f _

/-- What a point leaves of the first result, at the last point of a batch. -/
theorem rows_C (c : Dev nD) (t : Fin cfg0.N) (h0 : ¬t.val % 8 = 0) (h1 : t.val % 8 = 7) (f : Fin 512 → ℕ → Ideal .f32)
    (hp : ∀ (r : Fin 256) (d : Fin 512), fresh (iblk m c 1 t) (iblk m c 0 t) (ix2 r d) = f d (r.val + 30))
    (hg : ∀ (r : Fin 32) (d : Fin 512), 2 ≤ r.val → before m c t (ix2 (⟨r.val, by omega⟩ : Fin 288) d) = f d (r.val - 2))
    (y : S1x256x512.Idx) (l : Fin 512) (hl : l.val = (y 2).val) :
    (outsAt0 m c t.val t.isLt).1 y = mixed (weights m c t) (biases m c t) (normGains m c t) (normBiases m c t) f (y 1).val l := by
  have hg' : ∀ (r : Fin 32) (d : Fin 512), 2 ≤ r.val → View.read (Elt Ideal) (View.whole cc0_scratch0)
      ((Memref.isWhole_whole cc0_scratch0).unread (before m c t)) (ix2 (⟨r.val, by omega⟩ : Fin 288) d) = f d (r.val - 2) :=
    fun r d h => (congrFun (read_unread_whole _ _ _) _).trans (hg r d h)
  rw [outsAt0_C m c t h0 h1]
  frame_out
  canon_tiles x h
  case piece7 =>
    open_payloads
    refine block_at _ _ f 0 _ _ _ ?_ x _ (h1.trans (Nat.zero_add _).symm) _ (hl.trans h2)
    refine holds_own hp (by decide) (by decide) (by decide) (by decide) ?_
    iterate 30 refine holds_carried hp hg' (by decide) (by decide) (by decide) ?_
    exact holds_zero _ _ f _
  all_goals
    open_payloads
    refine block_at _ _ f _ _ _ _ ?_ x _ h1 _ (hl.trans h2)
    iterate 31 refine holds_own hp (by decide) (by decide) (by decide) (by decide) ?_
    exact holds_zero _ _ f _

end Cert.ConvIdeal.Value

end
-- ==== Proof.ConvolutionRef.lean ====
/- The convolution mixer's reference, index by index: the gated rows, their thirty-one taps, the norm. -/
module

public import proofs.«01_k».proof.Proof.Gen.ConvRefIdeal.Run
public import proofs.«01_k».proof.Proof.ConvolutionMath

@[expose] public section

set_option maxRecDepth 16384

noncomputable section

namespace Cert.ConvRefIdeal.Value

open Cert.ConvRefIdeal Cert.ConvRefIdeal.Gen Idealize.ShloMosaic Idealize.ShloMosaic.TcCoe Idealize.SL.Sem
open Cert.Proof.Conv

variable (V0 : Valuation τ sig (Elt Ideal))

/-- The first `k` taps are what `a` holds: weights `w`, rows `u`. -/
def Holds (w : Fin 31 → Fin 512 → Ideal .f32) (u : Fin 4 → Fin 2048 → Fin 512 → Ideal .f32) (k : ℕ) (a : FVec Ideal S4x2048x512 .f32) : Prop :=
  ∀ (b : Fin 4) (s : Fin 2048) (d : Fin 512), a (ix3 b s d) = taps (weight w d) (padded (u b) d) k s.val

/-- No tap. -/
theorem holds_zero (w : Fin 31 → Fin 512 → Ideal .f32) (u : Fin 4 → Fin 2048 → Fin 512 → Ideal .f32) :
    Holds w u 0 (broadcastInDim S4x2048x512 ![] bcast_S_S4x2048x512 (constant S_ .f32 0x00000000#32)) := fun b s d => by
  rw [taps_zero]
  pointwise

/-- One tap more. -/
theorem holds_succ {x : FVec Ideal S4x2078x512 .f32} {v : FVec Ideal S31x512 .f32} {u : Fin 4 → Fin 2048 → Fin 512 → Ideal .f32} {k : ℕ}
    {a : FVec Ideal S4x2048x512 .f32} {h1 : S4x2078x512.Slices ![0, k, 0] S4x2048x512} {h2 : S31x512.Slices ![k, 0] S1x512}
    (hx : ∀ (b : Fin 4) (s : Fin 2078) (d : Fin 512), x (ix3 b s d) = padded (u b) d s.val) (h : k < 31)
    (ha : Holds (fun k d => v (ix2 k d)) u k a) :
    Holds (fun k d => v (ix2 k d)) u (k + 1) (addf a (mulf (extractStridedSlice S4x2048x512 ![0, k, 0] x h1)
      (broadcastInDim S4x2048x512 ![0, 1, 2] bcast_S1x1x512_S4x2048x512_0_1_2 (broadcastInDim S1x1x512 ![2] bcast_S512_S1x1x512_2
        (shapeCast S512 (extractStridedSlice S1x512 ![k, 0] v h2) shapeCasts_S1x512_S512))))) := fun b s d => by
  rw [taps_succ, ← ha b s d, weight_of _ _ k h]
  have e : x (ix3 b ⟨k + s.val, by omega⟩ d) = padded (u b) d (s.val + k) :=
    (hx b ⟨k + s.val, by omega⟩ d).trans (congrArg (padded (u b) d) (Nat.add_comm _ _))
  rw [← e]
  pointwise
  exact congrArg (_ + ·) (mul_comm _ _)

/-- The gated rows of the run's argument. -/
abbrev gated (z : FVec Ideal S4x2048x8704 .f32) (b : Fin 4) (s : Fin 2048) (d : Fin 512) : Ideal .f32 :=
  z (ix3 b s ⟨d.val, by omega⟩) * Ideal.div 1 (1 + Ideal.exp (-z (ix3 b s ⟨512 + d.val, by omega⟩)))

/-- The first layer's weights of the taps, the biases added to their sum, and the norm's gains and biases. -/
abbrev firstWeights (k : Fin 31) (d : Fin 512) : Ideal .f32 := (V0 (Proc.devRef .tc main_arg1) : FVec Ideal S4x31x512 .f32) (ix3 0 k d)
@[inherit_doc firstWeights] abbrev firstBiases (d : Fin 512) : Ideal .f32 := (V0 (Proc.devRef .tc main_arg2) : FVec Ideal S4x512 .f32) (ix2 0 d)
@[inherit_doc firstWeights] abbrev normGains (d : Fin 512) : Ideal .f32 := (V0 (Proc.devRef .tc main_arg3) : FVec Ideal S4x512 .f32) (ix2 0 d)
@[inherit_doc firstWeights] abbrev normBiases (d : Fin 512) : Ideal .f32 := (V0 (Proc.devRef .tc main_arg4) : FVec Ideal S4x512 .f32) (ix2 0 d)

/-- The gated rows are the reference's, … -/
theorem gated_at (b : Fin 4) (s : Fin 2048) (d : Fin 512) :
    res_main_v15 V0 (ix3 b s d) = gated (V0 (Proc.devRef .tc main_arg0)) b s d := by
  pointwise [res_main_v15]

/-- … and with the rows of zeros before them too. -/
theorem padded_at (b : Fin 4) (s : Fin 2078) (d : Fin 512) :
    res_main_v16 V0 (ix3 b s d) = padded (gated (V0 (Proc.devRef .tc main_arg0)) b) d s.val := by
  pointwise [res_main_v16]
  unfold padded
  by_cases hs : 30 ≤ s.val
  · rw [dif_pos (show 30 ≤ s.val ∧ s.val < 2078 from ⟨hs, s.isLt⟩)]
    refine (dif_pos fun a => ?_).trans (gated_at V0 b _ d)
    have h3 : (Proc.tc.devRef main_v15 : DevRef τ sig).ty.shape.size 1 = 2048 := rfl
    fin_cases a
    · exact ⟨Nat.zero_le _, Nat.mod_one _, (Nat.div_one _).trans_lt b.isLt⟩
    · exact ⟨hs, Nat.mod_one _, (Nat.div_one _).trans_lt (show s.val - 30 < 2048 by omega)⟩
    · exact ⟨Nat.zero_le _, Nat.mod_one _, (Nat.div_one _).trans_lt d.isLt⟩
  · rw [dif_neg (show ¬(30 ≤ s.val ∧ s.val < 2078) from fun h => hs h.1)]
    refine (dif_neg fun h => hs (h (1 : Fin 3)).1).trans ?_
    simp [FloatOps.sitofp]

/-- The weights of the first layer. -/
theorem weights_at (k : Fin 31) (d : Fin 512) :
    res_main_v18 V0 (ix2 k d) = firstWeights V0 k d := by
  pointwise [res_main_v18]

/-- The taps, eleven of them, … -/
theorem holds_v98 : Holds (fun k d => res_main_v18 V0 (ix2 k d)) (gated (V0 (Proc.devRef .tc main_arg0))) 11 (res_main_v98 V0) := by
  unfold res_main_v98
  iterate 11 refine holds_succ (padded_at V0) (by decide) ?_
  exact holds_zero _ _

/-- … twenty-three, … -/
theorem holds_v182 : Holds (fun k d => res_main_v18 V0 (ix2 k d)) (gated (V0 (Proc.devRef .tc main_arg0))) 23 (res_main_v182 V0) := by
  unfold res_main_v182
  iterate 12 refine holds_succ (padded_at V0) (by decide) ?_
  exact holds_v98 V0

/-- … all of them, with the bias. -/
theorem taps_at (b : Fin 4) (s : Fin 2048) (d : Fin 512) : res_main_v241 V0 (ix3 b s d)
    = firstBiases V0 d
      + taps (weight (firstWeights V0) d)
          (padded (gated (V0 (Proc.devRef .tc main_arg0)) b) d) 31 s.val := by
  have h : ∃ a : FVec Ideal S4x2048x512 .f32,
      Holds (fun k d => res_main_v18 V0 (ix2 k d)) (gated (V0 (Proc.devRef .tc main_arg0))) 31 a ∧
      res_main_v241 V0 = addf a (broadcastInDim S4x2048x512 ![0, 1, 2] bcast_S1x1x512_S4x2048x512_0_1_2
        (broadcastInDim S1x1x512 ![2] bcast_S512_S1x1x512_2 (shapeCast S512 (extractStridedSlice S1x512 ![0, 0]
          (V0 (Proc.devRef .tc main_arg2) : FVec Ideal S4x512 .f32) slices_S4x512_S1x512_0_0) shapeCasts_S1x512_S512))) := by
    refine ⟨_, ?_, by unfold res_main_v241; rfl⟩
    iterate 8 refine holds_succ (padded_at V0) (by decide) ?_
    exact holds_v182 V0
  obtain ⟨a, ha, e⟩ := h
  rw [e]
  refine Eq.trans (b := a (ix3 b s d) + firstBiases V0 d) ?_ ?_
  · pointwise
  · have hw : (fun (k : Fin 31) (d : Fin 512) => res_main_v18 V0 (ix2 k d))
        = firstWeights V0 :=
      funext fun k => funext fun d => weights_at V0 k d
    rw [ha b s d, hw]
    exact add_comm _ _

/-- The reference's first result, … -/
abbrev refRows : FVec Ideal S4x2048x512 .bf16 := truncf .bf16 (mulf (res_main_v269 V0) (Host.divf
  (broadcastInDim S4x2048x512 ![] bcast_S_S4x2048x512 (constant S_ .f32 0x3F800000#32))
  (addf (broadcastInDim S4x2048x512 ![] bcast_S_S4x2048x512 (constant S_ .f32 0x3F800000#32)) (Host.exp (Host.negf (res_main_v269 V0))))))
  bitsLt_bf16_f32

/-- … index by index, … -/
theorem refRows_at (b : Fin 4) (s : Fin 2048) (l : Fin 512) : refRows V0 (ix3 b s l)
    = mixed (firstWeights V0)
        (firstBiases V0)
        (normGains V0)
        (normBiases V0)
        (padded (gated (V0 (Proc.devRef .tc main_arg0)) b)) s.val l := by
  unfold mixed
  rw [← funext fun d => taps_at V0 b s d]
  pointwise [refRows, res_main_v269, res_main_v251, res_main_v249]

/-- … and its second: the last 32 gated rows. -/
theorem refState_at (b : Fin 4) (s : Fin 32) (d : Fin 512) :
    extractStridedSlice S4x32x512 ![0, 2016, 0] (res_main_v15 V0) slices_S4x2048x512_S4x32x512_0_2016_0 (ix3 b s d)
      = gated (V0 (Proc.devRef .tc main_arg0)) b ⟨2016 + s.val, by omega⟩ d := by
  rw [← gated_at]
  pointwise

end Cert.ConvRefIdeal.Value

end
-- ==== Proof.Convolution.lean ====
/- The convolution mixer: what its kernel leaves in its two result arrays is the reference's.
   A grid point works on 256 rows of a batch. It gates them into a scratch, below the 32 gated rows before them, which the
   point before left there (the batch's first point lays down rows of zeros instead); sums thirty-one taps on the scratch's
   rows; norms the sums; and moves its own last 32 gated rows up for the point after. The batch's last point stores those
   rows as the second result. -/
module

public import proofs.«01_k».proof.Proof.Gen.ConvIdeal.Value
public import proofs.«01_k».proof.Proof.ConvolutionRows
public import proofs.«01_k».proof.Proof.ConvolutionRef
public import Idealize.ShloMosaic.Lib.Pipeline.ValueKit
public import Idealize.ShloMosaic.Lib.Claim
public import proofs.«01_k».proof.Defs

@[expose] public section

set_option maxRecDepth 16384

noncomputable section

namespace Cert.ConvIdeal.Value

open Cert.ConvIdeal Cert.ConvIdeal.Gen Idealize.ShloMosaic Idealize.ShloMosaic.TcCoe Idealize.SL.Sem
open Idealize.ShloMosaic.Pipeline (Dat)
open Cert.Proof.Conv

variable (m : (ℓ : Loc nD τ sig) → Buf (Elt Ideal) ℓ)

/-- Which block of each array a grid point works on: the batch is the point's number over eight, the rows its remainder. -/
theorem idx_conv : ∀ t : Fin cfg0.N, win0_0.index t = ![t.val / 8, t.val % 8, 0] ∧ win0_1.index t = ![t.val / 8, t.val % 8, 1]
    ∧ win0_2.index t = ![t.val / 8, 0, 0] ∧ win0_3.index t = ![0, 0, 0] ∧ win0_4.index t = ![0, 0, 0]
    ∧ win0_5.index t = ![0, 0, 0] ∧ win0_6.index t = ![0, 0, 0] ∧ win0_7.index t = ![t.val / 8, t.val % 8, 0]
    ∧ win0_8.index t = ![t.val / 8, 0, 0] :=
  (by decide +kernel : ∀ t : Fin grid0.N, _)

/-- The gated rows of a batch of the run's argument. -/
abbrev gatedOf (c : Dev nD) (b : Fin 4) : Fin 2048 → Fin 512 → Ideal .f32 :=
  Cert.ConvRefIdeal.Value.gated (m ((c : Thread nD τ).loc main_arg0)) b

/-- The run's argument, index by index. -/
abbrev argOf (c : Dev nD) (b : Fin 4) (s : Fin 2048) (d : Fin 8704) : Ideal .f32 :=
  (m ((c : Thread nD τ).loc main_arg0) : FVec Ideal S4x2048x8704 .f32) (ix3 b s d)

/-- A point's batch. -/
abbrev batch (t : Fin cfg0.N) : Fin 4 := ⟨t.val / 8, by have := lt_of_lt_of_eq t.isLt N_0; omega⟩

/-- The rows that a point's taps are on: column by column, counted from thirty rows before the point's first. -/
abbrev rowsOf (c : Dev nD) (t : Fin cfg0.N) (d : Fin 512) (s : ℕ) : Ideal .f32 := padded (gatedOf m c (batch t)) d (256 * (t.val % 8) + s)

/-- A row past the thirty of zeros is a gated row. -/
theorem padded_of (u : Fin 2048 → Fin 512 → Ideal .f32) (d : Fin 512) (s : ℕ) (r : Fin 2048) (h : s = r.val + 30) :
    padded u d s = u r d := by
  subst h
  exact (dif_pos ⟨Nat.le_add_left _ _, by omega⟩).trans (congrArg (fun r => u r d) (Fin.ext (Nat.add_sub_cancel _ _)))

/-- A point's own gated rows. -/
theorem fresh_at (c : Dev nD) (t : Fin cfg0.N) (r : Fin 256) (d : Fin 512) :
    fresh (iblk m c 1 t) (iblk m c 0 t) (ix2 r d) = rowsOf m c t d (r.val + 30) := by
  have ht := lt_of_lt_of_eq t.isLt N_0
  refine Eq.trans ?_ (padded_of _ d _ ⟨256 * (t.val % 8) + r.val, by omega⟩ (by show _ = 256 * (t.val % 8) + r.val + 30; omega)).symm
  refine Eq.trans ?_ (show argOf m c (batch t) ⟨256 * (t.val % 8) + r.val, by omega⟩ ⟨d.val, by omega⟩
    * Ideal.logistic (argOf m c (batch t) ⟨256 * (t.val % 8) + r.val, by omega⟩ ⟨512 + d.val, by omega⟩) = _ from rfl)
  pointwise [fresh, k0_pay3]
  refine congrArg₂ (· * ·) ?_ (congrArg Ideal.logistic ?_)
  all_goals blk_point [argOf, iblk, V_main_arg0 m c, idx_conv t]

/-- The rows laid down before a batch's first point are zeros. -/
theorem first_at (c : Dev nD) (t : Fin cfg0.N) (h0 : t.val % 8 = 0) (r : Fin 32) (d : Fin 512) (h : 2 ≤ r.val) :
    k0_pay2 (iblk m c 2 t) (ix2 r d) = rowsOf m c t d (r.val - 2) := by
  have hz : V m c main_v0 = fun _ => (Ideal.ofBits .f32 0x00000000#32 : Ideal .f32) := by
    unfold V
    simp only [hostOps0]
    after_results_simp
    rfl
  have hn : rowsOf m c t d (r.val - 2) = 0 := dif_neg (by omega)
  rw [hn]
  pointwise [k0_pay2]
  refine Eq.trans (congrFun hz _) ?_
  pointwise

/-- The last 32 rows of the scratch are the point's own last rows. -/
theorem last_at (p : Vec Ideal S256x512 .f32) (L : List (View.Piece (Elt Ideal) S288x512 .f32)) (r : Fin 32) (d : Fin 512) :
    View.readCov (Val := Elt Ideal) (s := S288x512) (e := .f32) (View.whole cc0_scratch0) (rowsPiece p :: L)
      (Rect.unit (s := S288x512) ![256, 0] ![32, 512] inb_S288x512_S32x512_256_0).toLoadRect (ix2 r d)
      = p (ix2 (⟨224 + r.val, by omega⟩ : Fin 256) d) := by
  refine (View.ld_unit_apply_of (stored (View.whole cc0_scratch0).junk (rowsPiece p :: L)) _ _ _ (ix2 r d)
    (ix2 (⟨256 + r.val, by omega⟩ : Fin 288) d) fun a => ?_).trans (stored_rows _ p L _ d _ (by show 256 + r.val = 32 + (224 + r.val); omega))
  fin_cases a <;> simp [ix2]

/-- The rows put first are found first, … -/
theorem head_at (q : Vec Ideal S32x512 .f32) (L : List (View.Piece (Elt Ideal) S288x512 .f32)) (r : Fin 32) (d : Fin 512) :
    View.canon (headPiece q :: L) (ix2 (⟨r.val, by omega⟩ : Fin 288) d) = q (ix2 r d) := by
  have hy : (ix2 (⟨r.val, by omega⟩ : Fin 288) d : S288x512.Idx)
      = (Rect.unit (s := S288x512) ![0, 0] ![32, 512] inb_S288x512_S32x512_0_0).emb (ix2 r d) := by
    funext a; apply Fin.ext; fin_cases a
    · show r.val = 0 + 1 * r.val; omega
    · show d.val = 0 + 1 * d.val; omega
  exact (congrArg (View.canon (headPiece q :: L)) hy).trans
    (View.canon_cons_emb (Rect.unit (s := S288x512) ![0, 0] ![32, 512] inb_S288x512_S32x512_0_0) q L (ix2 r d))

/-- … moved as they are. -/
theorem moved_at (v : Vec Ideal S32x512 .f32) (r : Fin 32) (d : Fin 512) : k0_pay1 v (ix2 r d) = v (ix2 r d) := by
  pointwise [k0_pay1]

/-- So the scratch's last rows, moved up, are its first. -/
theorem kept_at (p : Vec Ideal S256x512 .f32) (L L' : List (View.Piece (Elt Ideal) S288x512 .f32)) (r : Fin 32) (d : Fin 512) :
    View.canon (headPiece (k0_pay1 (View.readCov (Val := Elt Ideal) (s := S288x512) (e := .f32) (View.whole cc0_scratch0) (rowsPiece p :: L)
      (Rect.unit (s := S288x512) ![256, 0] ![32, 512] inb_S288x512_S32x512_256_0).toLoadRect)) :: L') (ix2 (⟨r.val, by omega⟩ : Fin 288) d)
      = p (ix2 (⟨224 + r.val, by omega⟩ : Fin 256) d) :=
  (head_at _ L' r d).trans ((moved_at _ r d).trans (last_at p L r d))

/-- A point leaves its own last 32 gated rows in the scratch's first. -/
theorem left_at (c : Dev nD) (t : Fin cfg0.N) (r : Fin 32) (d : Fin 512) :
    (outsAt0 m c t.val t.isLt).2.2 (ix2 (⟨r.val, by omega⟩ : Fin 288) d)
      = fresh (iblk m c 1 t) (iblk m c 0 t) (ix2 (⟨224 + r.val, by omega⟩ : Fin 256) d) := by
  by_cases c0 : t.val % 8 = 0
  · rw [outsAt0_A m c t c0 (by omega)]
    frame_out
    exact kept_at _ _ _ r d
  · by_cases c1 : t.val % 8 = 7
    · rw [outsAt0_C m c t c0 c1]
      frame_out
      exact kept_at _ _ _ r d
    · rw [outsAt0_B m c t c0 c1]
      frame_out
      exact kept_at _ _ _ r d

/-- So a later point finds the gated rows before its own. -/
theorem before_at (c : Dev nD) (t : Fin cfg0.N) (h0 : ¬t.val % 8 = 0) (r : Fin 32) (d : Fin 512) (h : 2 ≤ r.val) :
    before m c t (ix2 (⟨r.val, by omega⟩ : Fin 288) d) = rowsOf m c t d (r.val - 2) := by
  have ht := lt_of_lt_of_eq t.isLt N_0
  refine (left_at m c ⟨t.val - 1, by omega⟩ r d).trans ((fresh_at m c ⟨t.val - 1, by omega⟩ _ d).trans ?_)
  have hb : batch ⟨t.val - 1, by omega⟩ = batch t := Fin.ext (by show (t.val - 1) / 8 = t.val / 8; omega)
  unfold rowsOf
  rw [hb]
  exact congrArg (padded _ d) (by show 256 * ((t.val - 1) % 8) + (224 + r.val + 30) = 256 * (t.val % 8) + (r.val - 2); omega)

/-- The first layer's weights of the taps, the biases added to their sum, and the norm's gains and biases. -/
abbrev weightsOf (c : Dev nD) (k : Fin 31) (d : Fin 512) : Ideal .f32 :=
  (m ((c : Thread nD τ).loc main_arg1) : FVec Ideal S4x31x512 .f32) (ix3 0 k d)
@[inherit_doc weightsOf] abbrev biasesOf (c : Dev nD) (d : Fin 512) : Ideal .f32 :=
  (m ((c : Thread nD τ).loc main_arg2) : FVec Ideal S4x512 .f32) (ix2 0 d)
@[inherit_doc weightsOf] abbrev gainsOf (c : Dev nD) (d : Fin 512) : Ideal .f32 :=
  (m ((c : Thread nD τ).loc main_arg3) : FVec Ideal S4x512 .f32) (ix2 0 d)
@[inherit_doc weightsOf] abbrev normBiasesOf (c : Dev nD) (d : Fin 512) : Ideal .f32 :=
  (m ((c : Thread nD τ).loc main_arg4) : FVec Ideal S4x512 .f32) (ix2 0 d)

/-- The reference's first result on the run's arguments, … -/
def mixedOf (c : Dev nD) : FVec Ideal S4x2048x512 .bf16 := fun i =>
  mixed (weightsOf m c) (biasesOf m c) (gainsOf m c) (normBiasesOf m c) (padded (gatedOf m c (i 0))) (i 1).val (i 2)

/-- … and its second. -/
def stateOf (c : Dev nD) : FVec Ideal S4x32x512 .f32 := fun i =>
  gatedOf m c (i 0) ⟨2016 + (i 1).val, by have : (i 1).val < 32 := (i 1).isLt; omega⟩ (i 2)

/-- What a point finds of the weights and the like is the first layer's. -/
theorem layer_at (c : Dev nD) (t : Fin cfg0.N) :
    weights m c t = weightsOf m c
    ∧ biases m c t = biasesOf m c
    ∧ normGains m c t = gainsOf m c
    ∧ normBiases m c t = normBiasesOf m c := by
  refine ⟨funext fun k => funext fun d => ?_, funext fun d => ?_, funext fun d => ?_, funext fun d => ?_⟩
  all_goals blk_point [weights, biases, normGains, normBiases, iblk, V, idx_conv t]

/-- What a point leaves of the first result is the reference there. -/
theorem point_rows (c : Dev nD) (t : Fin cfg0.N) (y : S1x256x512.Idx) (j : S4x2048x512.Idx) (h0 : (j 0).val = t.val / 8)
    (h1 : (j 1).val = t.val % 8 * 256 + (y 1).val) (h2 : (j 2).val = (y 2).val) : (outsAt0 m c t.val t.isLt).1 y = mixedOf m c j := by
  have e : mixedOf m c j = mixed (weights m c t) (biases m c t) (normGains m c t) (normBiases m c t) (rowsOf m c t) (y 1).val (j 2) := by
    obtain ⟨e1, e2, e3, e4⟩ := layer_at m c t
    rw [e1, e2, e3, e4]
    have hb : (show Fin 4 from j 0) = batch t := Fin.ext h0
    have hs : (show Fin 2048 from j 1).val = 256 * (t.val % 8) + (show Fin 256 from y 1).val := by
      show (j 1).val = 256 * (t.val % 8) + (y 1).val
      omega
    unfold mixedOf mixed
    refine congrArg (fun p => outOf p _ _ _) (funext fun d => congrArg (_ + ·) ?_)
    refine Finset.sum_congr rfl fun k _ => congrArg (_ * ·) ?_
    refine (congrArg₂ (fun b s => padded (gatedOf m c b) d (s + k)) hb hs).trans ?_
    exact congrArg (padded _ d) (Nat.add_assoc _ _ _)
  rw [e]
  by_cases c0 : t.val % 8 = 0
  · exact rows_A m c t c0 (by omega) _ (fresh_at m c t) (first_at m c t c0) y _ h2
  · by_cases c1 : t.val % 8 = 7
    · exact rows_C m c t c0 c1 _ (fresh_at m c t) (before_at m c t c0) y _ h2
    · exact rows_B m c t c0 c1 _ (fresh_at m c t) (before_at m c t c0) y _ h2

/-- What the last point stores, index by index. -/
theorem stored_state (v : Vec Ideal S32x512 .f32) (r : Fin 32) (d : Fin 512) : k0_pay95 v (ix3 0 r d) = v (ix2 r d) := by
  pointwise [k0_pay95]

/-- What a batch's last point leaves of the second result is the reference there. -/
theorem point_state (c : Dev nD) (t : Fin cfg0.N) (c1 : t.val % 8 = 7) (y : S1x32x512.Idx) (j : S4x32x512.Idx)
    (h0 : (j 0).val = t.val / 8) (h1 : (j 1).val = (y 1).val) (h2 : (j 2).val = (y 2).val) :
    (outsAt0 m c t.val t.isLt).2.1 y = stateOf m c j := by
  have ht := lt_of_lt_of_eq t.isLt N_0
  have hy1 : (y 1).val < 32 := (y 1).isLt
  have e : stateOf m c j = fresh (iblk m c 1 t) (iblk m c 0 t) (ix2 (⟨224 + (y 1).val, by omega⟩ : Fin 256) (j 2)) := by
    refine Eq.trans ?_ (fresh_at m c t _ _).symm
    refine Eq.trans ?_ (padded_of _ _ _ ⟨2016 + (y 1).val, by omega⟩
      (by show 256 * (t.val % 8) + (224 + (y 1).val + 30) = 2016 + (y 1).val + 30; omega)).symm
    have hb : (show Fin 4 from j 0) = batch t := Fin.ext h0
    exact congrArg₂ (fun b s => gatedOf m c b s (j 2)) hb (Fin.ext (by show 2016 + (j 1).val = 2016 + (y 1).val; omega))
  have hy : y = ix3 0 (y 1) (j 2) := by
    funext a; fin_cases a
    · exact Subsingleton.elim (α := Fin 1) _ _
    · rfl
    · exact Fin.ext h2.symm
  rw [e, outsAt0_C m c t (by omega) c1]
  frame_out
  exact (congrArg (k0_pay95 _) hy).trans ((stored_state _ (y 1) (j 2)).trans (last_at _ [] (y 1) (j 2)))

/-- The first result array after the run is the reference's, … -/
theorem final_rows (c : Dev nD) : (dats m 0 c).arrAt 7 (cfgs 0).N = mixedOf m c := by
  refine (dats m 0 c).arrAt_eq_of_covers 7 _ (by decide +kernel) fun t _ y => ?_
  blk_simp
  rw [after0_7]
  exact point_rows m c t y _ (by blk_simp [idx_conv t]) (by blk_simp [idx_conv t]) (by blk_simp [idx_conv t])

/-- … and so is the second. -/
theorem final_state (c : Dev nD) : (dats m 0 c).arrAt 8 (cfgs 0).N = stateOf m c := by
  refine (dats m 0 c).arrAt_eq_of_covers 8 _ (by decide +kernel) fun t hf y => ?_
  have c1 : t.val % 8 = 7 := (by decide +kernel : ∀ t : Fin grid0.N, win0_8.flush t = true → t.val % 8 = 7) t hf
  blk_simp
  rw [after0_8]
  exact point_state m c t c1 y _ (by blk_simp [idx_conv t]) (by blk_simp [idx_conv t]) (by blk_simp [idx_conv t])

end Cert.ConvIdeal.Value

namespace Cert.Proof

open Idealize.ShloMosaic Idealize.ShloMosaic.TcCoe Idealize.SL.Sem

/-- An index of a result array by its parts. -/
theorem ix_rows (i : Cert.ConvRefIdeal.S4x2048x512.Idx) : i = ix3 (i 0) (i 1) (i 2) := by
  funext a; fin_cases a <;> rfl

@[inherit_doc ix_rows]
theorem ix_state (i : Cert.ConvRefIdeal.S4x32x512.Idx) : i = ix3 (i 0) (i 1) (i 2) := by
  funext a; fin_cases a <;> rfl

/-- The convolution mixer's kernel and its reference end with the same arrays. -/
theorem convolution : Cert.algebraic_ConvIdeal_ConvRefIdeal (hConvIdeal := Cert.ConvIdeal.Gen.facts)
    (hConvRefIdeal := Cert.ConvRefIdeal.Gen.facts) := by
  pair_intro
  · run_from Cert.ConvIdeal.Gen.run_main m g
  · run_from Cert.ConvRefIdeal.Value.run m' g'
    all_goals obtain ⟨e0, e1, e2, e3, e4⟩ := hagree c
    · refine (funext fun i => ?_ : Cert.ConvRefIdeal.Value.refRows (StableHlo.launchContents m' c) = _).trans
        (Cert.ConvIdeal.Value.final_rows m c).symm
      rw [ix_rows i]
      refine (Cert.ConvRefIdeal.Value.refRows_at _ (i 0) (i 1) (i 2)).trans ?_
      have w1 : Cert.ConvRefIdeal.Value.firstWeights (StableHlo.launchContents m' c) = Cert.ConvIdeal.Value.weightsOf m c :=
        funext fun k => funext fun d => congrFun e1 (ix3 0 k d)
      have w2 : Cert.ConvRefIdeal.Value.firstBiases (StableHlo.launchContents m' c) = Cert.ConvIdeal.Value.biasesOf m c :=
        funext fun d => congrFun e2 (ix2 0 d)
      have w3 : Cert.ConvRefIdeal.Value.normGains (StableHlo.launchContents m' c) = Cert.ConvIdeal.Value.gainsOf m c :=
        funext fun d => congrFun e3 (ix2 0 d)
      have w4 : Cert.ConvRefIdeal.Value.normBiases (StableHlo.launchContents m' c) = Cert.ConvIdeal.Value.normBiasesOf m c :=
        funext fun d => congrFun e4 (ix2 0 d)
      rw [w1, w2, w3, w4]
      exact congrArg (fun z => Conv.mixed (Cert.ConvIdeal.Value.weightsOf m c) (Cert.ConvIdeal.Value.biasesOf m c)
        (Cert.ConvIdeal.Value.gainsOf m c) (Cert.ConvIdeal.Value.normBiasesOf m c)
        (Conv.padded (Cert.ConvRefIdeal.Value.gated z (i 0))) (i 1).val (i 2)) e0
    · refine (funext fun i => ?_ : extractStridedSlice Cert.ConvRefIdeal.S4x32x512 ![0, 2016, 0]
          (Cert.ConvRefIdeal.Value.res_main_v15 (StableHlo.launchContents m' c))
          Cert.ConvRefIdeal.Gen.slices_S4x2048x512_S4x32x512_0_2016_0 = _).trans (Cert.ConvIdeal.Value.final_state m c).symm
      rw [ix_state i]
      refine (Cert.ConvRefIdeal.Value.refState_at _ (i 0) (i 1) (i 2)).trans ?_
      exact congrArg (fun z => Cert.ConvRefIdeal.Value.gated z (i 0)
        ⟨2016 + (i 1).val, by have : (i 1).val < 32 := (i 1).isLt; omega⟩ (i 2)) e0

end Cert.Proof

end
-- ==== Proof.lean ====
/- The claims of this directory, put together from the modules under `Proof/`. -/
module

public import proofs.«01_k».proof.Defs
public import proofs.«01_k».proof.Proof.Gen.Ret
public import proofs.«01_k».proof.Proof.Gen.RetIdeal.Skeleton
public import proofs.«01_k».proof.Proof.Gen.RetIdeal.Loops
public import proofs.«01_k».proof.Proof.Gen.RetIdeal.Launch
public import proofs.«01_k».proof.Proof.Gen.RetIdeal.Points
public import proofs.«01_k».proof.Proof.Gen.RetIdeal.Frame.Runs
public import proofs.«01_k».proof.Proof.RetentionFrame
public import proofs.«01_k».proof.Proof.RetentionBits
public import proofs.«01_k».proof.Proof.Gen.RetRefIdeal.Run
public import proofs.«01_k».proof.Proof.Gen.RetRefIdeal.Step
public import proofs.«01_k».proof.Proof.RetentionRefRun
public import proofs.«01_k».proof.Proof.Gen.Inp.Frame
public import proofs.«01_k».proof.Proof.Gen.InpIdeal.Frame
public import proofs.«01_k».proof.Proof.Gen.InpIdeal.Value
public import proofs.«01_k».proof.Proof.Gen.InpRefIdeal.Run
public import proofs.«01_k».proof.Proof.Gen.Outp.Frame
public import proofs.«01_k».proof.Proof.Gen.OutpIdeal.Frame
public import proofs.«01_k».proof.Proof.Gen.OutpIdeal.Value
public import proofs.«01_k».proof.Proof.Gen.OutpRefIdeal.Run
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Input
public import proofs.«01_k».proof.Proof.Retention
public import proofs.«01_k».proof.Proof.Output
public import proofs.«01_k».proof.Proof.Ffn
public import proofs.«01_k».proof.Proof.Modulation
public import proofs.«01_k».proof.Proof.Convolution
public import Idealize.ShloMosaic.Lib.Claim
public import Idealize.ShloMosaic.Adequacy
public import Idealize.ShloMosaic.Init

@[expose] public section

noncomputable section

namespace Cert.Proof

open Idealize.ShloMosaic Idealize.SL.Sem

/-- The input projection's reference, a program of host operations, ends with its arguments unchanged. -/
theorem frame_input_reference : Cert.quiescent_InpRefIdeal (hInpRefIdeal := Cert.InpRefIdeal.Gen.facts) := fun m ρ _ =>
  (θ_run Cert.InpRefIdeal.defs _ _).mono (fun r h => ⟨fun c => (h c).2, sem_eq_zero_of_no_sems (by decide) r.2⟩)
    (Cert.InpRefIdeal.Value.run m ρ)

/-- So does the output projection's, … -/
theorem frame_output_reference : Cert.quiescent_OutpRefIdeal (hOutpRefIdeal := Cert.OutpRefIdeal.Gen.facts) := fun m ρ _ =>
  (θ_run Cert.OutpRefIdeal.defs _ _).mono (fun r h => ⟨fun c => (h c).2.2, sem_eq_zero_of_no_sems (by decide) r.2⟩)
    (Cert.OutpRefIdeal.Value.run m ρ)

/-- … the modulation's … -/
theorem frame_modulation_reference : Cert.quiescent_AdaRefIdeal (hAdaRefIdeal := Cert.AdaRefIdeal.Gen.facts) := fun m ρ _ =>
  (θ_run Cert.AdaRefIdeal.defs _ _).mono (fun r h => ⟨fun c => (h c).2, sem_eq_zero_of_no_sems (by decide) r.2⟩)
    (Cert.AdaRefIdeal.Value.run m ρ)

/-- … the convolution mixer's … -/
theorem frame_convolution_reference : Cert.quiescent_ConvRefIdeal (hConvRefIdeal := Cert.ConvRefIdeal.Gen.facts) := fun m ρ _ =>
  (θ_run Cert.ConvRefIdeal.defs _ _).mono (fun r h => ⟨fun c => (h c).2.2, sem_eq_zero_of_no_sems (by decide) r.2⟩)
    (Cert.ConvRefIdeal.Value.run m ρ)

/-- … and the feed-forward layer's. -/
theorem frame_ffn_reference : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run m ρ)

/-- The retention's reference, a loop over the chunks, does so too. -/
theorem frame_retention_reference : Cert.quiescent_RetRefIdeal (hRetRefIdeal := Cert.RetRefIdeal.Gen.facts) := fun m ρ _ =>
  (θ_run Cert.RetRefIdeal.defs _ _).mono (fun r h => ⟨fun c => (h c).2.2, sem_eq_zero_of_no_sems (by decide) r.2⟩)
    (Cert.RetRefIdeal.Chunks.run m ρ)

theorem claim : Cert.Claim :=
  ⟨Cert.Ret.Gen.facts, Cert.RetIdeal.Gen.facts, Cert.RetRefIdeal.Gen.facts,
    Cert.Inp.Gen.facts, Cert.InpIdeal.Gen.facts, Cert.InpRefIdeal.Gen.facts,
    Cert.Outp.Gen.facts, Cert.OutpIdeal.Gen.facts, Cert.OutpRefIdeal.Gen.facts,
    Cert.Ffn.Gen.facts, Cert.FfnIdeal.Gen.facts, Cert.FfnRefIdeal.Gen.facts,
    Cert.Ada.Gen.facts, Cert.AdaIdeal.Gen.facts, Cert.AdaRefIdeal.Gen.facts,
    Cert.Conv.Gen.facts, Cert.ConvIdeal.Gen.facts, Cert.ConvRefIdeal.Gen.facts,
    frame_retention, fun m ρ _ => Cert.RetIdeal.Scan.frame m ρ, frame_retention_reference,
    fun m ρ _ => Cert.Inp.Gen.frame m ρ, fun m ρ _ => Cert.InpIdeal.Gen.frame m ρ, frame_input_reference,
    fun m ρ _ => Cert.Outp.Gen.frame m ρ, fun m ρ _ => Cert.OutpIdeal.Gen.frame m ρ, frame_output_reference,
    fun m ρ _ => Cert.Ffn.Gen.frame m ρ, fun m ρ _ => Cert.FfnIdeal.Gen.frame m ρ, frame_ffn_reference,
    fun m ρ _ => Cert.Ada.Gen.frame m ρ, fun m ρ _ => Cert.AdaIdeal.Gen.frame m ρ, frame_modulation_reference,
    fun m ρ _ => Cert.Conv.Gen.frame m ρ, fun m ρ _ => Cert.ConvIdeal.Gen.frame m ρ, frame_convolution_reference,
    trivial, retention, trivial, input, trivial, output, trivial, ffn, trivial, modulation, trivial, convolution⟩

end Cert.Proof

end
